-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_v5) = v2 c
          ∧ r.2.mem ((c.tc : Thread Cert.Reference2Ideal.nD Cert.Reference2Ideal.τ).loc Cert.Reference2Ideal.main_v6) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "s" .f32 0x3DB504F3#32 (((Real.sqrt 128)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v64) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_qk.lean ====
abbrev S8x2048x8448 : Shape := ⟨3, ![8, 2048, 8448]⟩
abbrev S8x2048x8192 : Shape := ⟨3, ![8, 2048, 8192]⟩
abbrev S6400 : Shape := ⟨1, ![6400]⟩
abbrev S128x2048 : Shape := ⟨2, ![128, 2048]⟩
abbrev S2048 : Shape := ⟨1, ![2048]⟩
abbrev S8x2048x4096 : Shape := ⟨3, ![8, 2048, 4096]⟩
abbrev S_ : Shape := ⟨0, ![]⟩

class Facts : Prop where
  slices_S8x2048x8192_S8x2048x4096_0_0_0 : S8x2048x8192.Slices ![0, 0, 0] S8x2048x4096
  bitsLt_bf16_f32 : FTy.bits .bf16 < FTy.bits .f32
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel

variable [Facts]

def fn {F : FTy → Type} [FloatOps F] (main_arg0 : FVec F S8x2048x8448 .f32) (main_arg1 : FVec F S8x2048x8192 .bf16) (main_arg2 : FVec F S6400 .f32) (main_arg3 : FVec F S128x2048 .f32) (main_arg4 : FVec F S2048 .f32) (main_arg5 : FVec F S128x2048 .f32) (main_arg6 : FVec F S2048 .f32) (main_arg7 : FVec F S2048 .f32) (main_arg8 : FVec F S2048 .f32) (main_arg9 : FVec F S2048 .f32) (main_arg10 : FVec F S2048 .f32) (main_arg11 : FVec F S2048 .f32) : IVec S_ 1 :=
  let main_v0 : FVec F S8x2048x4096 .bf16 := (extractStridedSlice S8x2048x4096 ![0, 0, 0] · slices_S8x2048x8192_S8x2048x4096_0_0_0) main_arg1
  let main_v1 : FVec F S8x2048x4096 .f32 := (extf .f32 · bitsLt_bf16_f32) main_v0
  let main_v2 : FVec F S8x2048x4096 .f32 := Host.absf main_v1
  let main_cst : FVec F S_ .f32 := constant S_ .f32 0x7F800000#32
  let main_v3 : FVec F S8x2048x4096 .f32 := broadcastInDim S8x2048x4096 ![] bcast_S_S8x2048x4096 main_cst
  let main_v4 : IVec S8x2048x4096 1 := cmpf .olt main_v2 main_v3
  let main_c : IVec S_ 1 := constantI S_ 1 1#1
  let main_v5 : IVec S_ 1 := (fun x v => Host.reduce IntOp.andi x v reducesTo_S8x2048x4096_S_d0_1_2 h_S_) main_v4 main_c
  main_v5
-- ==== Kernel.lean ====
abbrev S8x2048x8448 : Shape := ⟨3, ![8, 2048, 8448]⟩
abbrev S8x2048x8192 : Shape := ⟨3, ![8, 2048, 8192]⟩
abbrev S6400 : Shape := ⟨1, ![6400]⟩
abbrev S128x2048 : Shape := ⟨2, ![128, 2048]⟩
abbrev S2048 : Shape := ⟨1, ![2048]⟩
abbrev S1x2048 : Shape := ⟨2, ![1, 2048]⟩
abbrev S128 : Shape := ⟨1, ![128]⟩
abbrev S1x128 : Shape := ⟨2, ![1, 128]⟩
abbrev S8x2048x2048 : Shape := ⟨3, ![8, 2048, 2048]⟩
abbrev S1x128x2048 : Shape := ⟨3, ![1, 128, 2048]⟩
abbrev S1x128x128 : Shape := ⟨3, ![1, 128, 128]⟩
abbrev S1x2048x128 : Shape := ⟨3, ![1, 2048, 128]⟩
abbrev S16x128x128 : Shape := ⟨3, ![16, 128, 128]⟩
abbrev S64x1 : Shape := ⟨2, ![64, 1]⟩
abbrev S64x64 : Shape := ⟨2, ![64, 64]⟩
abbrev S128x128 : Shape := ⟨2, ![128, 128]⟩
abbrev S1x64x2048 : Shape := ⟨3, ![1, 64, 2048]⟩
abbrev S64x2048 : Shape := ⟨2, ![64, 2048]⟩
abbrev S1x64x128 : Shape := ⟨3, ![1, 64, 128]⟩
abbrev S64x128 : Shape := ⟨2, ![64, 128]⟩
abbrev S1024x128 : Shape := ⟨2, ![1024, 128]⟩
abbrev S1024x256 : Shape := ⟨2, ![1024, 256]⟩
abbrev S256x128 : Shape := ⟨2, ![256, 128]⟩
abbrev S1x1x128 : Shape := ⟨3, ![1, 1, 128]⟩
abbrev S16x1x128 : Shape := ⟨3, ![16, 1, 128]⟩
abbrev S16x64x128 : Shape := ⟨3, ![16, 64, 128]⟩
abbrev S16x256x128 : Shape := ⟨3, ![16, 256, 128]⟩
abbrev S16x256x256 : Shape := ⟨3, ![16, 256, 256]⟩
abbrev S16x128x256 : Shape := ⟨3, ![16, 128, 256]⟩
abbrev S128x256 : Shape := ⟨2, ![128, 256]⟩
abbrev S256x256 : Shape := ⟨2, ![256, 256]⟩
abbrev S1x256x128 : Shape := ⟨3, ![1, 256, 128]⟩
abbrev S512x128 : Shape := ⟨2, ![512, 128]⟩
abbrev S1x512x128 : Shape := ⟨3, ![1, 512, 128]⟩
abbrev S512x512 : Shape := ⟨2, ![512, 512]⟩
abbrev S512x256 : Shape := ⟨2, ![512, 256]⟩

abbrev nBuf : Space → Nat
  | .hbm => 33
  | .vmem => 44
  | .smem => 0
  | _ => 0

abbrev bufTy : (tb : Table) → Fin (tcTables nBuf tb) → BufTy
  | .hbm, ⟨0, _⟩ => ⟨S8x2048x8448, .f32⟩
  | .hbm, ⟨1, _⟩ => ⟨S8x2048x8192, .bf16⟩
  | .hbm, ⟨2, _⟩ => ⟨S6400, .f32⟩
  | .hbm, ⟨3, _⟩ => ⟨S128x2048, .f32⟩
  | .hbm, ⟨4, _⟩ => ⟨S2048, .f32⟩
  | .hbm, ⟨5, _⟩ => ⟨S128x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S128x2048, .bf16⟩
  | .hbm, ⟨23, _⟩ => ⟨S128x2048, .bf16⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S8x2048x2048, .bf16⟩
  | .hbm, ⟨32, _⟩ => ⟨S8x2048x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x2048, .f32⟩
  | .local _ .vmem, ⟨11, _⟩ => ⟨S1x128x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x128, .f32⟩
  | .local _ .vmem, ⟨16, _⟩ => ⟨S1x128, .f32⟩
  | .local _ .vmem, ⟨17, _⟩ => ⟨S128x2048, .bf16⟩
  | .local _ .vmem, ⟨18, _⟩ => ⟨S128x2048, .bf16⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1x2048x128, .bf16⟩
  | .local _ .vmem, ⟨27, _⟩ => ⟨S1x2048x128, .bf16⟩
  | .local _ .vmem, ⟨28, _⟩ => ⟨S1x2048x128, .bf16⟩
  | .local _ .vmem, ⟨29, _⟩ => ⟨S1x2048x128, .bf16⟩
  | .local _ .vmem, ⟨30, _⟩ => ⟨S1x2048x128, .bf16⟩
  | .local _ .vmem, ⟨31, _⟩ => ⟨S1x2048x128, .bf16⟩
  | .local _ .vmem, ⟨32, _⟩ => ⟨S1x2048x128, .bf16⟩
  | .local _ .vmem, ⟨33, _⟩ => ⟨S1x2048x128, .bf16⟩
  | .local _ .vmem, ⟨34, _⟩ => ⟨S1x128x2048, .bf16⟩
  | .local _ .vmem, ⟨35, _⟩ => ⟨S1x128x2048, .bf16⟩
  | .local _ .vmem, ⟨36, _⟩ => ⟨S1x2048x128, .bf16⟩
  | .local _ .vmem, ⟨37, _⟩ => ⟨S1x2048x128, .bf16⟩
  | .local _ .vmem, ⟨38, _⟩ => ⟨S16x128x128, .f32⟩
  | .local _ .vmem, ⟨39, _⟩ => ⟨S1x2048, .f32⟩
  | .local _ .vmem, ⟨40, _⟩ => ⟨S1x2048, .f32⟩
  | .local _ .vmem, ⟨41, _⟩ => ⟨S1x2048, .f32⟩
  | .local _ .vmem, ⟨42, _⟩ => ⟨S1x128, .f32⟩
  | .local _ .vmem, ⟨43, _⟩ => ⟨S1x128, .f32⟩
  | _, _ => ⟨S8x2048x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_mult2 (i : grid0.Coords) : BitVec 32 :=
  let arg1 : BitVec 32 := BitVec.ofNat 32 (i 1).val
  let c128_i32 : BitVec 32 := 128#32
  let v0 : BitVec 32 := Scalar.muli arg1 c128_i32
  v0
def k0_mult3 (i : grid0.Coords) : BitVec 32 :=
  let arg1 : BitVec 32 := BitVec.ofNat 32 (i 1).val
  let c128_i32 : BitVec 32 := 128#32
  let v0 : BitVec 32 := Scalar.muli arg1 c128_i32
  v0
def k0_mult4 (i : grid0.Coords) : BitVec 32 :=
  let arg1 : BitVec 32 := BitVec.ofNat 32 (i 1).val
  let c128_i32 : BitVec 32 := 128#32
  let v0 : BitVec 32 := Scalar.muli arg1 c128_i32
  v0
def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let v1 : BitVec 32 := v0
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let v1 : BitVec 32 := v0
  let c2048_i32 : BitVec 32 := 2048#32
  let c0_i32 : BitVec 32 := 0#32
  ![arg0.toNat, v1.toNat, c2048_i32.toNat]

def cc0_transform_2 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let v1 : BitVec 32 := v0
  let c4096_i32 : BitVec 32 := 4096#32
  let c0_i32 : BitVec 32 := 0#32
  ![arg0.toNat, v1.toNat, c4096_i32.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let c0_i32 : BitVec 32 := 0#32
  ![arg0.toNat, arg1.toNat, c48_i32.toNat]

def cc0_transform_4 (i : grid0.Coords) : Fin 3 → Nat :=
  let arg0 : BitVec 32 := BitVec.ofNat 32 (i 0).val
  let arg1 : BitVec 32 := BitVec.ofNat 32 (i 1).val
  let c49_i32 : BitVec 32 := 49#32
  let c0_i32 : BitVec 32 := 0#32
  ![arg0.toNat, arg1.toNat, c49_i32.toNat]

def cc0_transform_5 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let v1 : BitVec 32 := v0
  let c6400_i32 : BitVec 32 := 6400#32
  let c0_i32 : BitVec 32 := 0#32
  ![arg0.toNat, v1.toNat, c6400_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_21 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_22 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_23 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x2048x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x2048x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x2048x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x2048x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x128x2048 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x2048x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== ReferenceIdeal.lean ====
abbrev S8x2048x8448 : Shape := ⟨3, ![8, 2048, 8448]⟩
abbrev S8x2048x8192 : Shape := ⟨3, ![8, 2048, 8192]⟩
abbrev S6400 : Shape := ⟨1, ![6400]⟩
abbrev S128x2048 : Shape := ⟨2, ![128, 2048]⟩
abbrev S2048 : Shape := ⟨1, ![2048]⟩
abbrev S8x2048x2048 : Shape := ⟨3, ![8, 2048, 2048]⟩
abbrev S8x2048x16x128 : Shape := ⟨4, ![8, 2048, 16, 128]⟩
abbrev S8x16x2048x128 : Shape := ⟨4, ![8, 16, 2048, 128]⟩
abbrev S8x16x2048x2048 : Shape := ⟨4, ![8, 16, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩

abbrev nBuf : Space → Nat
  | .hbm => 94
  | .vmem => 0
  | .smem => 0
  | _ => 0

abbrev bufTy : (tb : Table) → Fin (tcTables nBuf tb) → BufTy
  | .hbm, ⟨0, _⟩ => ⟨S8x2048x8448, .f32⟩
  | .hbm, ⟨1, _⟩ => ⟨S8x2048x8192, .bf16⟩
  | .hbm, ⟨2, _⟩ => ⟨S6400, .f32⟩
  | .hbm, ⟨3, _⟩ => ⟨S128x2048, .f32⟩
  | .hbm, ⟨4, _⟩ => ⟨S2048, .f32⟩
  | .hbm, ⟨5, _⟩ => ⟨S128x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S8x2048x8192, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x16x128, .f32⟩
  | .hbm, ⟨18, _⟩ => ⟨S8x16x2048x128, .f32⟩
  | .hbm, ⟨19, _⟩ => ⟨S8x2048x16x128, .f32⟩
  | .hbm, ⟨20, _⟩ => ⟨S8x16x2048x128, .f32⟩
  | .hbm, ⟨21, _⟩ => ⟨S8x2048x16x128, .f32⟩
  | .hbm, ⟨22, _⟩ => ⟨S8x16x2048x128, .f32⟩
  | .hbm, ⟨23, _⟩ => ⟨S8x16x2048x2048, .f32⟩
  | .hbm, ⟨24, _⟩ => ⟨S2048, .i32⟩
  | .hbm, ⟨25, _⟩ => ⟨S1x2048, .i32⟩
  | .hbm, ⟨26, _⟩ => ⟨S2048, .i32⟩
  | .hbm, ⟨27, _⟩ => ⟨S2048x1, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S8x16x2048x2048, .f32⟩
  | .hbm, ⟨32, _⟩ => ⟨S8x16x2048x2048, .f32⟩
  | .hbm, ⟨33, _⟩ => ⟨S_, .f32⟩
  | .hbm, ⟨34, _⟩ => ⟨S8x16x2048x2048, .f32⟩
  | .hbm, ⟨35, _⟩ => ⟨S8x16x2048x2048, .f32⟩
  | .hbm, ⟨36, _⟩ => ⟨S8x16x2048x2048, .f32⟩
  | .hbm, ⟨37, _⟩ => ⟨S8x16x2048x2048, .f32⟩
  | .hbm, ⟨38, _⟩ => ⟨S8x16x2048x2048, .i1⟩
  | .hbm, ⟨39, _⟩ => ⟨S8x16x2048x2048, .f32⟩
  | .hbm, ⟨40, _⟩ => ⟨S8x16x2048x2048, .f32⟩
  | .hbm, ⟨41, _⟩ => ⟨S8x16x2048x2048, .f32⟩
  | .hbm, ⟨42, _⟩ => ⟨S8x16x2048x2048, .f32⟩
  | .hbm, ⟨43, _⟩ => ⟨S8x16x2048x2048, .f32⟩
  | .hbm, ⟨44, _⟩ => ⟨S8x16x2048x2048, .f32⟩
  | .hbm, ⟨45, _⟩ => ⟨S8x16x2048x2048, .f32⟩
  | .hbm, ⟨46, _⟩ => ⟨S8x16x2048x2048, .f32⟩
  | .hbm, ⟨47, _⟩ => ⟨S8x16x2048x2048, .f32⟩
  | .hbm, ⟨48, _⟩ => ⟨S_, .f32⟩
  | .hbm, ⟨49, _⟩ => ⟨S_, .f32⟩
  | .hbm, ⟨50, _⟩ => ⟨S8x16x2048x2048, .i1⟩
  | .hbm, ⟨51, _⟩ => ⟨S8x16x2048x2048, .f32⟩
  | .hbm, ⟨52, _⟩ => ⟨S8x16x2048x2048, .f32⟩
  | .hbm, ⟨53, _⟩ => ⟨S_, .f32⟩
  | .hbm, ⟨54, _⟩ => ⟨S_, .f32⟩
  | .hbm, ⟨55, _⟩ => ⟨S8x16x2048x2048, .f32⟩
  | .hbm, ⟨56, _⟩ => ⟨S8x16x2048x2048, .f32⟩
  | .hbm, ⟨57, _⟩ => ⟨S8x16x2048x2048, .f32⟩
  | .hbm, ⟨58, _⟩ => ⟨S_, .f32⟩
  | .hbm, ⟨59, _⟩ => ⟨S8x16x2048x2048, .f32⟩
  | .hbm, ⟨60, _⟩ => ⟨S8x16x2048x2048, .f32⟩
  | .hbm, ⟨61, _⟩ => ⟨S8x16x2048x2048, .f32⟩
  | .hbm, ⟨62, _⟩ => ⟨S8x16x2048x2048, .f32⟩
  | .hbm, ⟨63, _⟩ => ⟨S8x16x2048x2048, .i1⟩
  | .hbm, ⟨64, _⟩ => ⟨S8x16x2048x2048, .f32⟩
  | .hbm, ⟨65, _⟩ => ⟨S8x16x2048x2048, .f32⟩
  | .hbm, ⟨66, _⟩ => ⟨S8x16x2048x2048, .f32⟩
  | .hbm, ⟨67, _⟩ => ⟨S8x16x2048x2048, .f32⟩
  | .hbm, ⟨68, _⟩ => ⟨S8x16x2048x2048, .f32⟩
  | .hbm, ⟨69, _⟩ => ⟨S8x16x2048x2048, .f32⟩
  | .hbm, ⟨70, _⟩ => ⟨S8x16x2048x2048, .f32⟩
  | .hbm, ⟨71, _⟩ => ⟨S8x16x2048x2048, .f32⟩
  | .hbm, ⟨72, _⟩ => ⟨S8x16x2048x2048, .f32⟩
  | .hbm, ⟨73, _⟩ => ⟨S8x16x2048x2048, .f32⟩
  | .hbm, ⟨74, _⟩ => ⟨S8x16x2048x2048, .f32⟩
  | .hbm, ⟨75, _⟩ => ⟨S_, .f32⟩
  | .hbm, ⟨76, _⟩ => ⟨S_, .f32⟩
  | .hbm, ⟨77, _⟩ => ⟨S8x16x2048x2048, .i1⟩
  | .hbm, ⟨78, _⟩ => ⟨S8x16x2048x2048, .f32⟩
  | .hbm, ⟨79, _⟩ => ⟨S8x16x2048x2048, .f32⟩
  | .hbm, ⟨80, _⟩ => ⟨S8x16x2048x128, .f32⟩
  | .hbm, ⟨81, _⟩ => ⟨S8x2048x16x128, .f32⟩
  | .hbm, ⟨82, _⟩ => ⟨S8x2048x2048, .f32⟩
  | .hbm, ⟨83, _⟩ => ⟨S8x2048x2048, .f32⟩
  | .hbm, ⟨84, _⟩ => ⟨S8x2048x2048, .f32⟩
  | .hbm, ⟨85, _⟩ => ⟨S_, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048x2048, .f32⟩
  | .hbm, ⟨90, _⟩ => ⟨S8x2048x2048, .f32⟩
  | .hbm, ⟨91, _⟩ => ⟨S8x2048x2048, .f32⟩
  | .hbm, ⟨92, _⟩ => ⟨S8x2048x2048, .f32⟩
  | .hbm, ⟨93, _⟩ => ⟨S8x2048x2048, .bf16⟩
  | _, _ => ⟨S8x2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v20 : Ref sig .tc := ⟨.hbm, 47, rfl⟩
abbrev main_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v21 : Ref sig .tc := ⟨.hbm, 52, rfl⟩
abbrev main_call2_cst : Ref sig .tc := ⟨.hbm, 53, rfl⟩
abbrev main_call2_v0 : Ref sig .tc := ⟨.hbm, 54, rfl⟩
abbrev main_v22 : Ref sig .tc := ⟨.hbm, 55, rfl⟩
abbrev main_v23 : Ref sig .tc := ⟨.hbm, 56, rfl⟩
abbrev main_call3_v0 : Ref sig .tc := ⟨.hbm, 57, rfl⟩
abbrev main_call3_call0_cst : Ref sig .tc := ⟨.hbm, 58, rfl⟩
abbrev main_call3_call0_v0 : Ref sig .tc := ⟨.hbm, 59, rfl⟩
abbrev main_call3_call0_v1 : Ref sig .tc := ⟨.hbm, 60, rfl⟩
abbrev main_call3_call0_v2 : Ref sig .tc := ⟨.hbm, 61, rfl⟩
abbrev main_call3_call0_v3 : Ref sig .tc := ⟨.hbm, 62, rfl⟩
abbrev main_call3_call0_v4 : Ref sig .tc := ⟨.hbm, 63, rfl⟩
abbrev main_call3_call0_v5 : Ref sig .tc := ⟨.hbm, 64, rfl⟩
abbrev main_call3_call0_v6 : Ref sig .tc := ⟨.hbm, 65, rfl⟩
abbrev main_call3_call0_v7 : Ref sig .tc := ⟨.hbm, 66, rfl⟩
abbrev main_call3_call0_v8 : Ref sig .tc := ⟨.hbm, 67, rfl⟩
abbrev main_call3_call0_v9 : Ref sig .tc := ⟨.hbm, 68, rfl⟩
abbrev main_call3_call0_v10 : Ref sig .tc := ⟨.hbm, 69, rfl⟩
abbrev main_call3_call0_v11 : Ref sig .tc := ⟨.hbm, 70, rfl⟩
abbrev main_call3_v1 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_cst_0 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_call5_v0 : Ref sig .tc := ⟨.hbm, 83, rfl⟩
abbrev main_call5_v1 : Ref sig .tc := ⟨.hbm, 84, rfl⟩
abbrev main_call5_cst : Ref sig .tc := ⟨.hbm, 85, rfl⟩
abbrev main_call5_v2 : Ref sig .tc := ⟨.hbm, 86, rfl⟩
abbrev main_call5_v3 : Ref sig .tc := ⟨.hbm, 87, rfl⟩
abbrev main_call5_cst_0 : Ref sig .tc := ⟨.hbm, 88, rfl⟩
abbrev main_call5_v4 : Ref sig .tc := ⟨.hbm, 89, rfl⟩
abbrev main_call5_v5 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩

abbrev nD : Nat := 1
abbrev τ : Topo := Topo.v7x

variable {F : FTy → Type} [FloatOps F]
-- ==== Kernel2.lean ====
abbrev S16384x4096 : Shape := ⟨2, ![16384, 4096]⟩
abbrev S4096x16640 : Shape := ⟨2, ![4096, 16640]⟩
abbrev S4096x4096 : Shape := ⟨2, ![4096, 4096]⟩
abbrev S4096x8448 : Shape := ⟨2, ![4096, 8448]⟩
abbrev S16384x8448 : Shape := ⟨2, ![16384, 8448]⟩
abbrev S4096x8192 : Shape := ⟨2, ![4096, 8192]⟩
abbrev S1024x4096 : Shape := ⟨2, ![1024, 4096]⟩
abbrev S4096x768 : Shape := ⟨2, ![4096, 768]⟩
abbrev S32x8192 : Shape := ⟨2, ![32, 8192]⟩
abbrev S32x4096 : Shape := ⟨2, ![32, 4096]⟩
abbrev S1024x768 : Shape := ⟨2, ![1024, 768]⟩

abbrev nBuf : Space → Nat
  | .hbm => 10
  | .vmem => 18
  | .smem => 0
  | _ => 0

abbrev bufTy : (tb : Table) → Fin (tcTables nBuf tb) → BufTy
  | .hbm, ⟨0, _⟩ => ⟨S16384x4096, .bf16⟩
  | .hbm, ⟨1, _⟩ => ⟨S4096x16640, .f32⟩
  | .hbm, ⟨2, _⟩ => ⟨S4096x4096, .f32⟩
  | .hbm, ⟨3, _⟩ => ⟨S4096x4096, .f32⟩
  | .hbm, ⟨4, _⟩ => ⟨S4096x8448, .f32⟩
  | .hbm, ⟨5, _⟩ => ⟨S4096x8448, .bf16⟩
  | .hbm, ⟨6, _⟩ => ⟨S16384x8448, .f32⟩
  | .hbm, ⟨7, _⟩ => ⟨S4096x8192, .bf16⟩
  | .hbm, ⟨8, _⟩ => ⟨S4096x4096, .bf16⟩
  | .hbm, ⟨9, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x768, .bf16⟩
  | .local _ .vmem, ⟨3, _⟩ => ⟨S4096x768, .bf16⟩
  | .local _ .vmem, ⟨4, _⟩ => ⟨S32x8192, .f32⟩
  | .local _ .vmem, ⟨5, _⟩ => ⟨S32x8192, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S1024x768, .f32⟩
  | .local _ .vmem, ⟨11, _⟩ => ⟨S1024x768, .f32⟩
  | .local _ .vmem, ⟨12, _⟩ => ⟨S32x8192, .bf16⟩
  | .local _ .vmem, ⟨13, _⟩ => ⟨S32x8192, .bf16⟩
  | .local _ .vmem, ⟨14, _⟩ => ⟨S32x4096, .bf16⟩
  | .local _ .vmem, ⟨15, _⟩ => ⟨S32x4096, .bf16⟩
  | .local _ .vmem, ⟨16, _⟩ => ⟨S32x4096, .bf16⟩
  | .local _ .vmem, ⟨17, _⟩ => ⟨S32x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 11], ![false, false]⟩

def k0_mult1 (i : grid0.Coords) : BitVec 32 :=
  let c0_i32 : BitVec 32 := 0#32
  let arg1 : BitVec 32 := BitVec.ofNat 32 (i 1).val
  let c768_i32 : BitVec 32 := 768#32
  let v0 : BitVec 32 := Scalar.muli arg1 c768_i32
  let v1 : BitVec 32 := Scalar.addi c0_i32 v0
  v1
def k0_mult2 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  v3
def k0_mult3 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  v3
def k0_mult4 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  v3
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c768_i32 : BitVec 32 := 768#32
  let v0 : BitVec 32 := Scalar.muli arg1 c768_i32
  let c0_i32 : BitVec 32 := 0#32
  let v1 : BitVec 32 := Scalar.addi c0_i32 v0
  let v2 : BitVec 32 := v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  let v4 : BitVec 32 := v3
  let c8448_i32 : BitVec 32 := 8448#32
  let c0_i32 : BitVec 32 := 0#32
  ![v4.toNat, c8448_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  let v4 : BitVec 32 := v3
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  let v4 : BitVec 32 := v3
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S16384x4096 : Shape := ⟨2, ![16384, 4096]⟩
abbrev S4096x16640 : Shape := ⟨2, ![4096, 16640]⟩
abbrev S4096x4096 : Shape := ⟨2, ![4096, 4096]⟩
abbrev S4096x8448 : Shape := ⟨2, ![4096, 8448]⟩
abbrev S16384x8448 : Shape := ⟨2, ![16384, 8448]⟩
abbrev S4096x8192 : Shape := ⟨2, ![4096, 8192]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16640, .f32⟩
  | .hbm, ⟨2, _⟩ => ⟨S4096x4096, .f32⟩
  | .hbm, ⟨3, _⟩ => ⟨S4096x4096, .f32⟩
  | .hbm, ⟨4, _⟩ => ⟨S16384x4096, .f32⟩
  | .hbm, ⟨5, _⟩ => ⟨S4096x8448, .f32⟩
  | .hbm, ⟨6, _⟩ => ⟨S16384x8448, .f32⟩
  | .hbm, ⟨7, _⟩ => ⟨S4096x8192, .f32⟩
  | .hbm, ⟨8, _⟩ => ⟨S4096x8192, .bf16⟩
  | .hbm, ⟨9, _⟩ => ⟨S4096x4096, .bf16⟩
  | .hbm, ⟨10, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S16384x4096 : Shape := ⟨2, ![16384, 4096]⟩
abbrev S4096x8192 : Shape := ⟨2, ![4096, 8192]⟩
abbrev S4096x12288 : Shape := ⟨2, ![4096, 12288]⟩
abbrev S16384x8192 : Shape := ⟨2, ![16384, 8192]⟩
abbrev S1024x4096 : Shape := ⟨2, ![1024, 4096]⟩
abbrev S4096x1024 : Shape := ⟨2, ![4096, 1024]⟩
abbrev S32x12288 : Shape := ⟨2, ![32, 12288]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .bf16⟩
  | .hbm, ⟨2, _⟩ => ⟨S4096x12288, .f32⟩
  | .hbm, ⟨3, _⟩ => ⟨S16384x8192, .bf16⟩
  | .hbm, ⟨4, _⟩ => ⟨S4096x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S32x12288, .f32⟩
  | .local _ .vmem, ⟨5, _⟩ => ⟨S32x12288, .f32⟩
  | .local _ .vmem, ⟨6, _⟩ => ⟨S1024x1024, .bf16⟩
  | .local _ .vmem, ⟨7, _⟩ => ⟨S1024x1024, .bf16⟩
  | .local _ .vmem, ⟨8, _⟩ => ⟨S32x12288, .bf16⟩
  | .local _ .vmem, ⟨9, _⟩ => ⟨S32x12288, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def k0_mult2 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  v3
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  let v4 : BitVec 32 := v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x12288 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel3Ideal.lean ====
variable {F : FTy → Type} [FloatOps F] [Named F]
def κ : String → Option EReal := fun
  | "s" => some (((Real.sqrt 128)⁻¹ : ℝ) : EReal)
  | _ => none
-- ==== Reference3Ideal.lean ====
abbrev S16384x4096 : Shape := ⟨2, ![16384, 4096]⟩
abbrev S4096x8192 : Shape := ⟨2, ![4096, 8192]⟩
abbrev S4096x12288 : Shape := ⟨2, ![4096, 12288]⟩
abbrev S16384x8192 : Shape := ⟨2, ![16384, 8192]⟩
abbrev S16384x2048 : Shape := ⟨2, ![16384, 2048]⟩
abbrev S_ : Shape := ⟨0, ![]⟩
abbrev S16384x6144 : Shape := ⟨2, ![16384, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .bf16⟩
  | .hbm, ⟨2, _⟩ => ⟨S4096x12288, .f32⟩
  | .hbm, ⟨3, _⟩ => ⟨S16384x4096, .f32⟩
  | .hbm, ⟨4, _⟩ => ⟨S4096x8192, .f32⟩
  | .hbm, ⟨5, _⟩ => ⟨S16384x8192, .f32⟩
  | .hbm, ⟨6, _⟩ => ⟨S16384x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x6144, .f32⟩
  | .hbm, ⟨14, _⟩ => ⟨S16384x8192, .f32⟩
  | .hbm, ⟨15, _⟩ => ⟨S16384x8192, .bf16⟩
  | .hbm, ⟨16, _⟩ => ⟨S4096x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S16384x4096 : Shape := ⟨2, ![16384, 4096]⟩
abbrev S4096x12288 : Shape := ⟨2, ![4096, 12288]⟩
abbrev S16384x8192 : Shape := ⟨2, ![16384, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x4096 : Shape := ⟨2, ![16384, 4096]⟩
abbrev S4096x12288 : Shape := ⟨2, ![4096, 12288]⟩
abbrev S4096x8192 : Shape := ⟨2, ![4096, 8192]⟩
abbrev S16384x8192 : Shape := ⟨2, ![16384, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x4096, .f32⟩
  | .hbm, ⟨3, _⟩ => ⟨S4096x8192, .bf16⟩
  | .hbm, ⟨4, _⟩ => ⟨S4096x8192, .f32⟩
  | .hbm, ⟨5, _⟩ => ⟨S16384x8192, .f32⟩
  | .hbm, ⟨6, _⟩ => ⟨S_, .f32⟩
  | .hbm, ⟨7, _⟩ => ⟨S16384x8192, .f32⟩
  | .hbm, ⟨8, _⟩ => ⟨S16384x8192, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel5.lean ====
abbrev S16384x4096 : Shape := ⟨2, ![16384, 4096]⟩
abbrev S4096x12288 : Shape := ⟨2, ![4096, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c8192_i32 : BitVec 32 := 8192#32
  let arg1 : BitVec 32 := BitVec.ofNat 32 (i 1).val
  let c1024_i32 : BitVec 32 := 1024#32
  let v0 : BitVec 32 := Scalar.muli arg1 c1024_i32
  let v1 : BitVec 32 := Scalar.addi c8192_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c8192_i32 : BitVec 32 := 8192#32
  let v1 : BitVec 32 := Scalar.addi c8192_i32 v0
  let v2 : BitVec 32 := v1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x4096 : Shape := ⟨2, ![16384, 4096]⟩
abbrev S4096x12288 : Shape := ⟨2, ![4096, 12288]⟩
abbrev S4096x4096 : Shape := ⟨2, ![4096, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x4096, .f32⟩
  | .hbm, ⟨3, _⟩ => ⟨S4096x4096, .bf16⟩
  | .hbm, ⟨4, _⟩ => ⟨S4096x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Kernel6.lean ====
abbrev S16384x2048 : Shape := ⟨2, ![16384, 2048]⟩
abbrev S4096x4096 : Shape := ⟨2, ![4096, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S16384x4096, .bf16⟩
  | .hbm, ⟨5, _⟩ => ⟨S16384x4096, .f32⟩
  | .hbm, ⟨6, _⟩ => ⟨S4096x4096, .f32⟩
  | .hbm, ⟨7, _⟩ => ⟨S16384x4096, .f32⟩
  | .hbm, ⟨8, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S16384x8192 : Shape := ⟨2, ![16384, 8192]⟩
abbrev S16384x4096 : Shape := ⟨2, ![16384, 4096]⟩
abbrev S4096 : Shape := ⟨1, ![4096]⟩
abbrev S16x128x128 : Shape := ⟨3, ![16, 128, 128]⟩
abbrev S16x128 : Shape := ⟨2, ![16, 128]⟩
abbrev S4096x4096 : Shape := ⟨2, ![4096, 4096]⟩
abbrev S1x4096 : Shape := ⟨2, ![1, 4096]⟩
abbrev S16x128x1 : Shape := ⟨3, ![16, 128, 1]⟩
abbrev S512x512 : Shape := ⟨2, ![512, 512]⟩
abbrev S512x4096 : Shape := ⟨2, ![512, 4096]⟩
abbrev S1x512 : Shape := ⟨2, ![1, 512]⟩
abbrev S512x1 : Shape := ⟨2, ![512, 1]⟩
abbrev S512x1024 : Shape := ⟨2, ![512, 1024]⟩
abbrev S512 : Shape := ⟨1, ![512]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128x256 : Shape := ⟨2, ![128, 256]⟩
abbrev S512x256 : Shape := ⟨2, ![512, 256]⟩
abbrev S1x1024 : Shape := ⟨2, ![1, 1024]⟩

abbrev nBuf : Space → Nat
  | .hbm => 14
  | .vmem => 21
  | .smem => 0
  | _ => 0

abbrev bufTy : (tb : Table) → Fin (tcTables nBuf tb) → BufTy
  | .hbm, ⟨0, _⟩ => ⟨S16384x8192, .bf16⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S16x128x128, .f32⟩
  | .hbm, ⟨5, _⟩ => ⟨S16x128, .f32⟩
  | .hbm, ⟨6, _⟩ => ⟨S4096x4096, .bf16⟩
  | .hbm, ⟨7, _⟩ => ⟨S16384x4096, .f32⟩
  | .hbm, ⟨8, _⟩ => ⟨S4096, .f32⟩
  | .hbm, ⟨9, _⟩ => ⟨S1x4096, .f32⟩
  | .hbm, ⟨10, _⟩ => ⟨S1x4096, .f32⟩
  | .hbm, ⟨11, _⟩ => ⟨S16x128x1, .f32⟩
  | .hbm, ⟨12, _⟩ => ⟨S1x4096, .f32⟩
  | .hbm, ⟨13, _⟩ => ⟨S16384x4096, .f32⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S16x128x128, .f32⟩
  | .local _ .vmem, ⟨11, _⟩ => ⟨S16x128x1, .f32⟩
  | .local _ .vmem, ⟨12, _⟩ => ⟨S512x4096, .bf16⟩
  | .local _ .vmem, ⟨13, _⟩ => ⟨S512x4096, .bf16⟩
  | .local _ .vmem, ⟨14, _⟩ => ⟨S512x512, .f32⟩
  | .local _ .vmem, ⟨15, _⟩ => ⟨S512x512, .f32⟩
  | .local _ .vmem, ⟨16, _⟩ => ⟨S1x4096, .f32⟩
  | .local _ .vmem, ⟨17, _⟩ => ⟨S512x4096, .f32⟩
  | .local _ .vmem, ⟨18, _⟩ => ⟨S512x4096, .f32⟩
  | .local _ .vmem, ⟨19, _⟩ => ⟨S512x1, .f32⟩
  | .local _ .vmem, ⟨20, _⟩ => ⟨S512x1, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k0_off2 (i : grid0.Coords) (c0_i32_9 : BitVec 32) : Fin 3 → Nat :=
  let arg1 : BitVec 32 := BitVec.ofNat 32 (i 1).val
  let c2_i32 : BitVec 32 := 2#32
  let v26 : BitVec 32 := Scalar.muli arg1 c2_i32
  let v27 : BitVec 32 := Scalar.addi v26 c0_i32_9
  let v28 : Index := Scalar.indexCast v27
  let c0_10 : Index := 0#32
  let c0_11 : Index := 0#32
  ![v28.toNat, 0, 0]
def k0_off3 (i : grid0.Coords) (c0_i32_9 : BitVec 32) : Fin 3 → Nat :=
  let arg1 : BitVec 32 := BitVec.ofNat 32 (i 1).val
  let c2_i32 : BitVec 32 := 2#32
  let v26 : BitVec 32 := Scalar.muli arg1 c2_i32
  let v27 : BitVec 32 := Scalar.addi v26 c0_i32_9
  let v34 : Index := Scalar.indexCast v27
  let c0_12 : Index := 0#32
  let c0_13 : Index := 0#32
  ![v34.toNat, 0, 0]
def k0_mult2 (i : grid0.Coords) : BitVec 32 :=
  let arg1 : BitVec 32 := BitVec.ofNat 32 (i 1).val
  let c512_i32_57 : BitVec 32 := 512#32
  let v114 : BitVec 32 := Scalar.muli arg1 c512_i32_57
  v114
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference7Ideal.lean ====
abbrev S16384x8192 : Shape := ⟨2, ![16384, 8192]⟩
abbrev S16384x4096 : Shape := ⟨2, ![16384, 4096]⟩
abbrev S4096 : Shape := ⟨1, ![4096]⟩
abbrev S16x128x128 : Shape := ⟨3, ![16, 128, 128]⟩
abbrev S16x128 : Shape := ⟨2, ![16, 128]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S128x128x16x256 : Shape := ⟨4, ![128, 128, 16, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S16x128x256x128 : Shape := ⟨4, ![16, 128, 256, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 86
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S16x128x128, .f32⟩
  | .hbm, ⟨5, _⟩ => ⟨S16x128, .f32⟩
  | .hbm, ⟨6, _⟩ => ⟨S4096x4096, .bf16⟩
  | .hbm, ⟨7, _⟩ => ⟨S16384x4096, .f32⟩
  | .hbm, ⟨8, _⟩ => ⟨S4096, .f32⟩
  | .hbm, ⟨9, _⟩ => ⟨S16384x4096, .bf16⟩
  | .hbm, ⟨10, _⟩ => ⟨S16384x4096, .f32⟩
  | .hbm, ⟨11, _⟩ => ⟨S16384x4096, .bf16⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x4096, .f32⟩
  | .hbm, ⟨35, _⟩ => ⟨S16384x4096, .f32⟩
  | .hbm, ⟨36, _⟩ => ⟨S1x4096, .f32⟩
  | .hbm, ⟨37, _⟩ => ⟨S16384x4096, .f32⟩
  | .hbm, ⟨38, _⟩ => ⟨S16384x4096, .f32⟩
  | .hbm, ⟨39, _⟩ => ⟨S1x4096, .f32⟩
  | .hbm, ⟨40, _⟩ => ⟨S16384x4096, .f32⟩
  | .hbm, ⟨41, _⟩ => ⟨S16384x4096, .f32⟩
  | .hbm, ⟨42, _⟩ => ⟨S128x128x16x256, .f32⟩
  | .hbm, ⟨43, _⟩ => ⟨S128, .i32⟩
  | .hbm, ⟨44, _⟩ => ⟨S1x128, .i32⟩
  | .hbm, ⟨45, _⟩ => ⟨S128, .i32⟩
  | .hbm, ⟨46, _⟩ => ⟨S128x1, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S1x128x128, .i1⟩
  | .hbm, ⟨51, _⟩ => ⟨S_, .f32⟩
  | .hbm, ⟨52, _⟩ => ⟨S_, .f32⟩
  | .hbm, ⟨53, _⟩ => ⟨S16x128x128, .i1⟩
  | .hbm, ⟨54, _⟩ => ⟨S16x128x128, .f32⟩
  | .hbm, ⟨55, _⟩ => ⟨S16x128x128, .f32⟩
  | .hbm, ⟨56, _⟩ => ⟨S16x128x256x128, .f32⟩
  | .hbm, ⟨57, _⟩ => ⟨S128x128x16x256, .f32⟩
  | .hbm, ⟨58, _⟩ => ⟨S128x16, .f32⟩
  | .hbm, ⟨59, _⟩ => ⟨S128x16x1, .f32⟩
  | .hbm, ⟨60, _⟩ => ⟨S1x128x16x1, .f32⟩
  | .hbm, ⟨61, _⟩ => ⟨S128x128x16x256, .f32⟩
  | .hbm, ⟨62, _⟩ => ⟨S128x128x16x256, .f32⟩
  | .hbm, ⟨63, _⟩ => ⟨S16384x4096, .f32⟩
  | .hbm, ⟨64, _⟩ => ⟨S16384x4096, .f32⟩
  | .hbm, ⟨65, _⟩ => ⟨S16384x4096, .f32⟩
  | .hbm, ⟨66, _⟩ => ⟨S16384x4096, .f32⟩
  | .hbm, ⟨67, _⟩ => ⟨S4096x4096, .f32⟩
  | .hbm, ⟨68, _⟩ => ⟨S16384x4096, .f32⟩
  | .hbm, ⟨69, _⟩ => ⟨S16384x4096, .f32⟩
  | .hbm, ⟨70, _⟩ => ⟨S16384x4096, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S16384x1, .f32⟩
  | .hbm, ⟨81, _⟩ => ⟨S16384x4096, .f32⟩
  | .hbm, ⟨82, _⟩ => ⟨S16384x4096, .f32⟩
  | .hbm, ⟨83, _⟩ => ⟨S1x4096, .f32⟩
  | .hbm, ⟨84, _⟩ => ⟨S16384x4096, .f32⟩
  | .hbm, ⟨85, _⟩ => ⟨S16384x4096, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_cst_7 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Kernel8.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.MixRun.lean ====
/- The mixers' body, run once: what its stores leave in the attention output, whatever the recurrence's branch. -/
module

public import proofs.«01_k».proof.Proof.Gen.KernelIdeal.Frame.Runs

@[expose] public section

set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 80000000 in
/-- The pieces the body's stores leave in the attention output's buffer, with the proof that from whole buffers, the inputs' at their
    contents and the others' at anything, the body runs to the continuation that has the inputs' as they were, the attention output's with those
    pieces written, and the other output's and the scratch at some contents. Both branches of the recurrence's reset leave the same pieces. -/
def bodyRun (c : Dev nD) (i : grid0.Coords)
    (arg2 : Memref sig .tc .vmem S1x128x2048 .f32) (harg2 : arg2.IsWhole) (arg3 : Memref sig .tc .vmem S1x128x2048 .f32) (harg3 : arg3.IsWhole) (arg4 :
    Memref sig .tc .vmem S1x128x2048 .f32) (harg4 : arg4.IsWhole) (arg5 : Memref sig .tc .vmem S1x128x128 .f32) (harg5 : arg5.IsWhole) (arg6 : Memref sig
    .tc .vmem S1x128x128 .f32) (harg6 : arg6.IsWhole) (arg7 : Memref sig .tc .vmem S1x128x2048 .f32) (harg7 : arg7.IsWhole) (arg8 : Memref sig .tc .vmem
    S1x2048 .f32) (harg8 : arg8.IsWhole) (arg9 : Memref sig .tc .vmem S1x2048 .f32) (harg9 : arg9.IsWhole) (arg10 : Memref sig .tc .vmem S1x2048 .f32)
    (harg10 : arg10.IsWhole) (arg11 : Memref sig .tc .vmem S1x128 .f32) (harg11 : arg11.IsWhole) (arg12 : Memref sig .tc .vmem S1x128 .f32) (harg12 :
    arg12.IsWhole) (arg13 : Memref sig .tc .vmem S128x2048 .bf16) (harg13 : arg13.IsWhole) (arg14 : Memref sig .tc .vmem S128x2048 .bf16) (harg14 :
    arg14.IsWhole) (arg15 : Memref sig .tc .vmem S1x2048 .f32) (harg15 : arg15.IsWhole) (arg16 : Memref sig .tc .vmem S1x2048 .f32) (harg16 :
    arg16.IsWhole) (arg17 : Memref sig .tc .vmem S1x2048 .f32) (harg17 : arg17.IsWhole) (arg18 : Memref sig .tc .vmem S1x2048 .f32) (harg18 :
    arg18.IsWhole) (arg19 : Memref sig .tc .vmem S1x2048 .f32) (harg19 : arg19.IsWhole) (arg20 : Memref sig .tc .vmem S1x2048 .f32) (harg20 :
    arg20.IsWhole) (arg21 : Memref sig .tc .vmem S1x2048 .f32) (harg21 : arg21.IsWhole) (arg22 : Memref sig .tc .vmem S1x2048x128 .bf16) (harg22 :
    arg22.IsWhole) (arg23 : Memref sig .tc .vmem S1x2048x128 .bf16) (harg23 : arg23.IsWhole) (arg24 : Memref sig .tc .vmem S1x2048x128 .bf16) (harg24 :
    arg24.IsWhole) (arg25 : Memref sig .tc .vmem S1x2048x128 .bf16) (harg25 : arg25.IsWhole) (arg26 : Memref sig .tc .vmem S1x128x2048 .bf16) (harg26 :
    arg26.IsWhole) (arg27 : Memref sig .tc .vmem S1x2048x128 .bf16) (harg27 : arg27.IsWhole) (arg28 : Memref sig .tc .vmem S16x128x128 .f32) (harg28 :
    arg28.IsWhole) (arg29 : Memref sig .tc .vmem S1x2048 .f32) (harg29 : arg29.IsWhole) (arg30 : Memref sig .tc .vmem S1x2048 .f32) (harg30 :
    arg30.IsWhole) (arg31 : Memref sig .tc .vmem S1x2048 .f32) (harg31 : arg31.IsWhole) (arg32 : Memref sig .tc .vmem S1x128 .f32) (harg32 :
    arg32.IsWhole) (arg33 : Memref sig .tc .vmem S1x128 .f32) (harg33 : arg33.IsWhole)
    (x0 : Vec F S1x128x2048 .f32) (x1 : Vec F S1x128x2048 .f32) (x2 : Vec F S1x128x2048 .f32) (x3 : Vec F S1x128x128 .f32) (x4 : Vec F S1x128x128 .f32)
    (x5 : Vec F S1x128x2048 .f32) (x6 : Vec F S1x2048 .f32) (x7 : Vec F S1x2048 .f32) (x8 : Vec F S1x2048 .f32) (x9 : Vec F S1x128 .f32) (x10 : Vec F
    S1x128 .f32) (x11 : Vec F S128x2048 .bf16) (x12 : Vec F S128x2048 .bf16) (x13 : Vec F S1x2048 .f32) (x14 : Vec F S1x2048 .f32) (x15 : Vec F S1x2048
    .f32) (x16 : Vec F S1x2048 .f32) (x17 : Vec F S1x2048 .f32) (x18 : Vec F S1x2048 .f32) (x19 : Vec F S1x2048 .f32) (x20 : Vec F S1x2048x128 .bf16) (x21
    : Vec F S1x2048x128 .bf16) (x22 : Vec F S1x2048x128 .bf16) (x23 : Vec F S1x2048x128 .bf16) :
    { L : List (View.Piece (Elt F) S1x2048x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD
          τ) arg5 fullShare x3 ∗ owns (c : Thread nD τ) arg6 fullShare x4 ∗ owns (c : Thread nD τ) arg7 fullShare x5 ∗ owns (c : Thread nD τ) arg8 fullShare x6
          ∗ owns (c : Thread nD τ) arg9 fullShare x7 ∗ owns (c : Thread nD τ) arg10 fullShare x8 ∗ owns (c : Thread nD τ) arg11 fullShare x9 ∗ owns (c : Thread
          nD τ) arg12 fullShare x10 ∗ owns (c : Thread nD τ) arg13 fullShare x11 ∗ owns (c : Thread nD τ) arg14 fullShare x12 ∗ owns (c : Thread nD τ) arg15
          fullShare x13 ∗ owns (c : Thread nD τ) arg16 fullShare x14 ∗ owns (c : Thread nD τ) arg17 fullShare x15 ∗ owns (c : Thread nD τ) arg18 fullShare x16 ∗
          owns (c : Thread nD τ) arg19 fullShare x17 ∗ owns (c : Thread nD τ) arg20 fullShare x18 ∗ owns (c : Thread nD τ) arg21 fullShare x19 ∗ owns (c :
          Thread nD τ) arg22 fullShare x20 ∗ owns (c : Thread nD τ) arg23 fullShare x21 ∗ owns (c : Thread nD τ) arg24 fullShare x22 ∗ owns (c : Thread nD τ)
          arg25 fullShare x23 ∗ (∃ d, owns (c : Thread nD τ) arg26 fullShare d) ∗ (∃ d, owns (c : Thread nD τ) arg27 fullShare d) ∗ (∃ d, owns (c : Thread nD τ)
          arg28 fullShare d) ∗ (∃ d, owns (c : Thread nD τ) arg29 fullShare d) ∗ (∃ d, owns (c : Thread nD τ) arg30 fullShare d) ∗ (∃ d, owns (c : Thread nD τ)
          arg31 fullShare d) ∗ (∃ d, owns (c : Thread nD τ) arg32 fullShare d) ∗ (∃ d, owns (c : Thread nD τ) arg33 fullShare d)
          ∗ (iprop(owns (c : Thread nD τ) arg2 fullShare x0 ∗ owns (c : Thread nD τ) arg3 fullShare x1 ∗ owns (c : Thread nD τ) arg4 fullShare x2 ∗ owns (c : Thread nD
            τ) arg5 fullShare x3 ∗ owns (c : Thread nD τ) arg6 fullShare x4 ∗ owns (c : Thread nD τ) arg7 fullShare x5 ∗ owns (c : Thread nD τ) arg8 fullShare x6
            ∗ owns (c : Thread nD τ) arg9 fullShare x7 ∗ owns (c : Thread nD τ) arg10 fullShare x8 ∗ owns (c : Thread nD τ) arg11 fullShare x9 ∗ owns (c : Thread
            nD τ) arg12 fullShare x10 ∗ owns (c : Thread nD τ) arg13 fullShare x11 ∗ owns (c : Thread nD τ) arg14 fullShare x12 ∗ owns (c : Thread nD τ) arg15
            fullShare x13 ∗ owns (c : Thread nD τ) arg16 fullShare x14 ∗ owns (c : Thread nD τ) arg17 fullShare x15 ∗ owns (c : Thread nD τ) arg18 fullShare x16 ∗
            owns (c : Thread nD τ) arg19 fullShare x17 ∗ owns (c : Thread nD τ) arg20 fullShare x18 ∗ owns (c : Thread nD τ) arg21 fullShare x19 ∗ owns (c :
            Thread nD τ) arg22 fullShare x20 ∗ owns (c : Thread nD τ) arg23 fullShare x21 ∗ owns (c : Thread nD τ) arg24 fullShare x22 ∗ owns (c : Thread nD τ)
            arg25 fullShare x23 ∗ (∃ d, owns (c : Thread nD τ) arg26 fullShare d) ∗ (∃ f, arg27.view.loc (c : Thread nD τ) ↦[arg27.view.set]{fullShare}
            arg27.view.writes (Elt F) f L) ∗ (∃ d, owns (c : Thread nD τ) arg28 fullShare d) ∗ (∃ d, owns (c : Thread nD τ) arg29 fullShare d) ∗ (∃ d, owns (c :
            Thread nD τ) arg30 fullShare d) ∗ (∃ d, owns (c : Thread nD τ) arg31 fullShare d) ∗ (∃ d, owns (c : Thread nD τ) arg32 fullShare d) ∗ (∃ d, owns (c :
            Thread nD τ) arg33 fullShare d))
            -∗ K ⟨⟩))
          ⊢ wp frame (wpE (defs₀ (F := F)) Variants.none c none) E
            (cc0_mixers i arg2 harg2 arg3 harg3 arg4 harg4 arg5 harg5 arg6 harg6 arg7 harg7 arg8 harg8 arg9 harg9 arg10 harg10 arg11 harg11 arg12 harg12 arg13
            harg13 arg14 harg14 arg15 harg15 arg16 harg16 arg17 harg17 arg18 harg18 arg19 harg19 arg20 harg20 arg21 harg21 arg22 harg22 arg23 harg23 arg24 harg24
            arg25 harg25 arg26 harg26 arg27 harg27 arg28 harg28 arg29 harg29 arg30 harg30 arg31 harg31 arg32 harg32 arg33 harg33) K } := by
  refine ⟨?_, fun E K => ?run⟩
  case run =>
    by_cases hc0 : cond0_0 i
    all_goals
      simp only [cc0_mixers_eq_skeleton]; unfold cc0_mixers_skel
      simp only [k0_part58_eq_skeleton, k0_part1_eq_skeleton, k0_part2_eq_skeleton, k0_part3_eq_skeleton, k0_part4_eq_skeleton, k0_part5_eq_skeleton,
        k0_part6_eq_skeleton, k0_part7_eq_skeleton, k0_part8_eq_skeleton, k0_part9_eq_skeleton, k0_part10_eq_skeleton, k0_part11_eq_skeleton,
        k0_part12_eq_skeleton, k0_part13_eq_skeleton, k0_part14_eq_skeleton, k0_part15_eq_skeleton, k0_part16_eq_skeleton, k0_part17_eq_skeleton,
        k0_part18_eq_skeleton, k0_part19_eq_skeleton, k0_part20_eq_skeleton, k0_part21_eq_skeleton, k0_part22_eq_skeleton, k0_part23_eq_skeleton,
        k0_part24_eq_skeleton, k0_part25_eq_skeleton, k0_part26_eq_skeleton, k0_part27_eq_skeleton, k0_part28_eq_skeleton, k0_part29_eq_skeleton,
        k0_part30_eq_skeleton, k0_part31_eq_skeleton, k0_part32_eq_skeleton, k0_part33_eq_skeleton, k0_part34_eq_skeleton, k0_part35_eq_skeleton,
        k0_part36_eq_skeleton, k0_part37_eq_skeleton, k0_part38_eq_skeleton, k0_part39_eq_skeleton, k0_part40_eq_skeleton, k0_part41_eq_skeleton,
        k0_part42_eq_skeleton, k0_part43_eq_skeleton, k0_part44_eq_skeleton, k0_part45_eq_skeleton, k0_part46_eq_skeleton, k0_part47_eq_skeleton,
        k0_part48_eq_skeleton, k0_part49_eq_skeleton, k0_part50_eq_skeleton, k0_part51_eq_skeleton, k0_part52_eq_skeleton, k0_part53_eq_skeleton,
        k0_part54_eq_skeleton, k0_part55_eq_skeleton, k0_part56_eq_skeleton, k0_part57_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8,
        %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩,
        ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23,
        %hf23, H23⟩, ⟨%d24, %f24, -, H24⟩, ⟨%d25, %f25, -, H25⟩, ⟨%ds0, %fs0, %hs0, HS0⟩, ⟨%ds1, %fs1, %hs1, HS1⟩, ⟨%ds2, %fs2, %hs2, HS2⟩, ⟨%ds3, %fs3, %hs3,
        HS3⟩, ⟨%ds4, %fs4, %hs4, HS4⟩, ⟨%ds5, %fs5, %hs5, HS5⟩, Hk⟩
      obtain rfl := harg2.eq_unread hf0; obtain rfl := harg3.eq_unread hf1; obtain rfl := harg4.eq_unread hf2; obtain rfl := harg5.eq_unread hf3; obtain rfl
        := harg6.eq_unread hf4; obtain rfl := harg7.eq_unread hf5; obtain rfl := harg8.eq_unread hf6; obtain rfl := harg9.eq_unread hf7; obtain rfl :=
        harg10.eq_unread hf8; obtain rfl := harg11.eq_unread hf9; obtain rfl := harg12.eq_unread hf10; obtain rfl := harg13.eq_unread hf11; obtain rfl :=
        harg14.eq_unread hf12; obtain rfl := harg15.eq_unread hf13; obtain rfl := harg16.eq_unread hf14; obtain rfl := harg17.eq_unread hf15; obtain rfl :=
        harg18.eq_unread hf16; obtain rfl := harg19.eq_unread hf17; obtain rfl := harg20.eq_unread hf18; obtain rfl := harg21.eq_unread hf19; obtain rfl :=
        harg22.eq_unread hf20; obtain rfl := harg23.eq_unread hf21; obtain rfl := harg24.eq_unread hf22; obtain rfl := harg25.eq_unread hf23; obtain rfl :=
        harg28.eq_unread hs0; obtain rfl := harg29.eq_unread hs1; obtain rfl := harg30.eq_unread hs2; obtain rfl := harg31.eq_unread hs3; obtain rfl :=
        harg32.eq_unread hs4; obtain rfl := harg33.eq_unread hs5
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      isplitl [H13]
      · iexists _; isplitr; · ipureintro; exact harg15.read_unread _
        iexact H13
      isplitl [H14]
      · iexists _; isplitr; · ipureintro; exact harg16.read_unread _
        iexact H14
      isplitl [H15]
      · iexists _; isplitr; · ipureintro; exact harg17.read_unread _
        iexact H15
      isplitl [H16]
      · iexists _; isplitr; · ipureintro; exact harg18.read_unread _
        iexact H16
      isplitl [H17]
      · iexists _; isplitr; · ipureintro; exact harg19.read_unread _
        iexact H17
      isplitl [H18]
      · iexists _; isplitr; · ipureintro; exact harg20.read_unread _
        iexact H18
      isplitl [H19]
      · iexists _; isplitr; · ipureintro; exact harg21.read_unread _
        iexact H19
      isplitl [H20]
      · iexists _; isplitr; · ipureintro; exact harg22.read_unread _
        iexact H20
      isplitl [H21]
      · iexists _; isplitr; · ipureintro; exact harg23.read_unread _
        iexact H21
      isplitl [H22]
      · iexists _; isplitr; · ipureintro; exact harg24.read_unread _
        iexact H22
      isplitl [H23]
      · iexists _; isplitr; · ipureintro; exact harg25.read_unread _
        iexact H23
      isplitl [H24]
      · iexists _; iexists _; isplitr
        swap; · iexact H24
        ipureintro; rfl
      isplitl [H25]; · iexists _; iexact H25
      isplitl [HS0]
      · iexists _; iexists _; isplitr
        swap; · iexact HS0
        ipureintro; rfl
      isplitl [HS1]
      · iexists _; iexists _; isplitr
        swap; · iexact HS1
        ipureintro; rfl
      isplitl [HS2]
      · iexists _; iexists _; isplitr
        swap; · iexact HS2
        ipureintro; rfl
      isplitl [HS3]
      · iexists _; iexists _; isplitr
        swap; · iexact HS3
        ipureintro; rfl
      isplitl [HS4]
      · iexists _; iexists _; isplitr
        swap; · iexact HS4
        ipureintro; rfl
      iexists _; iexists _; isplitr
      swap; · iexact HS5
      ipureintro; rfl

end Cert.Mix

end
-- ==== Proof.MixFrame.lean ====
/- The mixers' frame: every run ends with the arguments as they were, and with the attention output, block by block, at what the body
   leaves there. Of the recurrence's output nothing is stated. -/
module

public import proofs.«01_k».proof.Proof.MixRun

@[expose] public section

set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

local notation "𝕄" => MT nD τ sig Unit (Elt F) ℕ (UR sig nD τ) ℕ

/-- The body's run at point `t`, on the buffers and blocks of that point. -/
abbrev runAt (c : Dev nD) (t : Fin cfg0.N) :=
  bodyRun (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t)
    (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t)
    (hs0_14 t) (ms0_15 t) (hs0_15 t) (ms0_16 t) (hs0_16 t) (ms0_17 t) (hs0_17 t) (ms0_18 t) (hs0_18 t) (ms0_19 t) (hs0_19 t) (ms0_20 t) (hs0_20 t) (ms0_21
    t) (hs0_21 t) (ms0_22 t) (hs0_22 t) (ms0_23 t) (hs0_23 t) (ms0_24 t) (hs0_24 t) (ms0_25 t) (hs0_25 t) scM0_0 (Memref.isWhole_whole _) scM0_1
    (Memref.isWhole_whole _) scM0_2 (Memref.isWhole_whole _) scM0_3 (Memref.isWhole_whole _) scM0_4 (Memref.isWhole_whole _) scM0_5 (Memref.isWhole_whole
    _)
    (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t) (iblk m c 16 t) (iblk m c 17 t) (iblk m c 18 t) (iblk
    m c 19 t) (iblk m c 20 t) (iblk m c 21 t) (iblk m c 22 t) (iblk m c 23 t)

/-- The body's four stores fill the attention output's buffer. -/
theorem cover_out (c : Dev nD) (t : Fin cfg0.N) (y : S1x2048x128.Idx) :
    ∃ p ∈ (runAt m c t).1, y ∈ p.1.set :=
  View.cover_of_tiledL (runAt m c t).1 S1x512x128.size (by sl_kernel_rfl) y

/-- What the body leaves in the attention output's buffer at point `t`. -/
def out25 (c : Dev nD) (t : Fin cfg0.N) : Vec F S1x2048x128 .bf16 :=
  VO0_25.read (Elt F) (VO0_25.writes (Elt F) VO0_25.junk (runAt m c t).1)

/-- The recurrence's output is not described. -/
def untold : Fin 26 → Bool := fun w => w.val == 24

/-- The pipeline's contents on core `c`: the arrays as they are entered, each input's buffer at its block after every point, the attention
    output's at what the body leaves, the recurrence's output untold, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, h⟩ => Dat.unnamed (cfg := cfg0) ⟨24, h⟩ t
    | ⟨25, _⟩ => out25 m c t
    | ⟨_ + 26, h⟩ => absurd h (Nat.not_lt.2 (Nat.le_add_left _ _))
  Φ _ := Pipeline.ΦA spec0 c
  q w := Pipeline.shareOf spec0 w
  owed _ := 0

/-- The arrays are entered at the contents the host prefix leaves. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_25 (c : Dev nD) (t : Fin cfg0.N) : (dats m 0 c).after 25 t = out25 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d

/-- What the pipeline hands the body at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare d)
    ∗ (∃ d, owns (c : Thread nD τ) (ms0_25 t) fullShare ((dats m 0 c).before 25 t d)))

/-- What the body hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ (∃ d, owns (c : Thread nD τ) (ms0_24 t) fullShare d)
    ∗ owns (c : Thread nD τ) (ms0_25 t) fullShare ((dats m 0 c).after 25 t))

set_option maxHeartbeats 25600000 in
/-- The body, at every point, takes what it is handed to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13,
    before_14, before_15, before_16, before_17, before_18, before_19, before_20, before_21, before_22, before_23]
  rw [show (dats m 0 c).owesAt () t.succ = (dats m 0 c).owesAt () t.castSucc from rfl,
    after_0, after_1, after_2, after_3, after_4, after_5, after_6, after_7, after_8, after_9, after_10, after_11, after_12, after_13, after_14, after_15,
    after_16, after_17, after_18, after_19, after_20, after_21, after_22, after_23, after_25]
  rw [show (dats m 0 c).Φ t.succ = Pipeline.ΦA spec0 c from rfl, show (dats m 0 c).Φ t.castSucc = Pipeline.ΦA spec0 c from rfl, PhiA0_eq]
  unfold out25
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩,
    ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24,
    H24⟩, ⟨%d25, H25⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, H20, H21, H22, H23, H24, ⟨%e25, H25⟩, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  unfold owns; iexists _; isplitr
  swap; · iexact H25
  ipureintro; exact View.read_writes_of_cover _ _ _ _ _ (cover_out m c t)

/-- The body table's row at point `t` is the body on that point's buffers. -/
theorem row_eq (t : Fin cfg0.N) :
    defs₀ (F := F) .tc cfg0.body (cfg0.bodyArgs t (cfg0.slots t)) = bodyAt0 t := by
  unfold defs₀; rw [Defs.onTc_tc]

/-- The body's triple in the form the pipeline asks for. -/
theorem obliged (c : Dev nD) : BodyObligation (dats (F := F) m 0 c) (defs₀ (F := F)) Variants.none () Set.univ untold := fun t => by
  rw [bigSep_W0, bigSep_W0, row_eq]
  exact triple_restated (sound_body m c t) rfl .rfl fun _ => .rfl

set_option backward.isDefEq.respectTransparency.types false in
/-- Every run ends, with the pipeline's arrays at their final contents (the recurrence's output apart) and every counter at zero. -/
theorem run_main : θ_run defs (onTc (τ := τ) (main (F := F))) (s₀ m ρ) (fun r =>
    Pipeline.RDat.FramePost (cfgs 0) (fun c => (dats m 0 c).toRForget untold) (V m) r ∧ r.2.sem = fun _ => 0) :=
  Pipeline.θ_run_frame_track_forget_shared (Q' := _) cfgs (dats m) (0 : Fin 1) launch₀0 defs₀ Variants.none untold m ρ main
    (hbody := fun c => (obliged m c).loose) (hq := fun _ _ _ => rfl)
    (howed := fun _ _ => rfl) (V := V m) (hmain := hmain m Variants.none) (hA := A_eq m)
    (hin := fun _ => Entails.refl _) (hout := fun _ => Entails.refl _)

set_option maxHeartbeats 1560000 in
/-- Every run ends with every argument as it was and every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨(Pipeline.RDat.FramePost.arr_in h.1 c 5 rfl).trans ((A_eq m c 5).trans (V_main_arg0 m c)),
      (Pipeline.RDat.FramePost.arr_in h.1 c 23 rfl).trans ((A_eq m c 23).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩) (run_main m ρ)

end Cert.Mix

end
-- ==== Proof.MixTwin.lean ====
/- The mixers: the frame of the program as it is printed. -/
module

public import proofs.«01_k».proof.Proof.MixFrame
public import proofs.«01_k».proof.Proof.Gen.Kernel.Launch
public import proofs.«01_k».proof.Defs

@[expose] public section

set_option maxRecDepth 16384
set_option maxHeartbeats 40000000

noncomputable section

namespace Cert.Mix

open Idealize.ShloMosaic Idealize.SL.Sem

/-- At the hardware's numbers the printed program and its idealization have the same body. -/
theorem body_twin : Cert.Kernel.defs₀ (F := Bits) = Cert.KernelIdeal.defs₀ (F := Bits) := by
  unfold Cert.Kernel.defs₀ Cert.KernelIdeal.defs₀
  congr 1
  funext l x
  match l with
  | 0 => rfl

/-- They have the same host program. -/
theorem main_twin : Cert.Kernel.main (F := Bits) = Cert.KernelIdeal.main (F := Bits) := rfl

/-- They have the same pipelined calls. -/
theorem defs_twin : Cert.Kernel.defs (F := Bits) = Cert.KernelIdeal.defs (F := Bits) :=
  congrArg (Idealize.ShloMosaic.Pipeline.defs (Cert.Kernel.pcfgs (F := Bits))) body_twin

/-- The printed program keeps its arguments and leaves no signal behind. -/
theorem kept_bits : Cert.quiescent_Kernel := by
  intro m g _
  rw [defs_twin, main_twin]
  exact kept (F := Bits) m g

end Cert.Mix

end
-- ==== Proof.MixTile.lean ====
module

public import proofs.«01_k».proof.Proof.MixFrame
public import Idealize.ShloMosaic.Lib.Pipeline.ValueKit
public import Idealize.ShloMosaic.Lib.Pointwise

@[expose] public section
set_option maxRecDepth 16384
noncomputable section
namespace Cert.Mix

open Cert.KernelIdeal Cert.KernelIdeal.Gen
open Idealize.ShloMosaic Idealize.ShloMosaic.TcCoe Idealize.ShloMosaic.Tactic
variable {F : FTy → Type} [FloatOps F]

/-! The attention of the mixers, tile by tile: a tile is a rectangle of queries by keys. -/

/-- The scores of a tile of 256 queries by 256 keys. -/
def scoreS (q k : FVec F S256x128 .bf16) : FVec F S256x256 .bf16 :=
  truncf .bf16 (matmul dot_S256x128_S256x128_S256x256_1_1_0_0_n_n none q k (constant S256x256 .f32 0x00000000#32)) bitsLt_bf16_f32

/-- The logarithm of the sigmoid of the scores, 256 by 256. -/
def takeS (z : FVec F S256x256 .bf16) : FVec F S256x256 .bf16 :=
  subf (minimumf z (broadcast S256x256 (Scalar.ofBits .bf16 0x0000#16)))
    (log (addf (broadcast S256x256 (Scalar.ofBits .bf16 0x3F80#16)) (exp (subf (broadcast S256x256 (Scalar.ofBits .bf16 0x0000#16)) (absf z)))))

/-- The logarithm of what the scores leave of the stick, 256 by 256. -/
def leaveS (z : FVec F S256x256 .bf16) : FVec F S256x256 .bf16 := subf (takeS z) z

/-- The same, with zero where the key is not before the query. -/
def leaveM (z : FVec F S256x256 .bf16) : FVec F S256x256 .bf16 :=
  select k0_pay301 (leaveS z) (broadcast S256x256 (Scalar.ofBits .bf16 0x0000#16))

/-- The sums of the last 128 columns. -/
def sumsS1 (l : FVec F S256x256 .bf16) : FVec F S256x256 .f32 :=
  matmul dot_S256x128_S128x256_S256x256_1_0_0_1_n_n none (extractStridedSlice S256x128 ![0, 128] l slices_S256x256_o0_128_S256x128) k0_pay300 (constant S256x256 .f32 0x00000000#32)

/-- The sums of the first 128 columns. -/
def sumsS0 (l : FVec F S256x256 .bf16) : FVec F S256x256 .f32 :=
  matmul dot_S256x128_S128x256_S256x256_1_0_0_1_n_n none (extractStridedSlice S256x128 ![0, 0] l slices_S256x256_o0_0_S256x128) k0_pay300 (constant S256x256 .f32 0x00000000#32)

/-- What is carried past the last 128 columns. -/
def pastS1 (l : FVec F S256x256 .bf16) (c : FVec F S256x128 .f32) : FVec F S256x128 .f32 :=
  addf c (extractStridedSlice S256x128 ![0, 128] (sumsS1 l) slices_S256x256_o0_128_S256x128)

/-- What is carried past the tile. -/
def pastS (l : FVec F S256x256 .bf16) (c : FVec F S256x128 .f32) : FVec F S256x128 .f32 :=
  addf (pastS1 l c) (extractStridedSlice S256x128 ![0, 128] (sumsS0 l) slices_S256x256_o0_128_S256x128)

/-- The sums over the later keys, for each key of the tile. -/
def laterS (l : FVec F S256x256 .bf16) (c : FVec F S256x128 .f32) : FVec F S256x256 .bf16 :=
  concatenate S256x256 1
    [⟨S256x128, truncf .bf16 (addf (extractStridedSlice S256x128 ![0, 0] (sumsS0 l) slices_S256x256_o0_0_S256x128) (pastS1 l c)) bitsLt_bf16_f32⟩,
     ⟨S256x128, truncf .bf16 (addf (extractStridedSlice S256x128 ![0, 0] (sumsS1 l) slices_S256x256_o0_0_S256x128) c) bitsLt_bf16_f32⟩]
    concatenates_S256x128_S256x128_S256x256_d1

/-- The weights of a tile below the diagonal. -/
def weightS (z : FVec F S256x256 .bf16) (c : FVec F S256x128 .f32) : FVec F S256x256 .bf16 :=
  exp (addf (takeS z) (laterS (leaveS z) c))

/-- The weights of a tile on the diagonal. -/
def weightM (z : FVec F S256x256 .bf16) (c : FVec F S256x128 .f32) : FVec F S256x256 .bf16 :=
  select k0_pay301 (exp (addf (takeS z) (laterS (leaveM z) c))) (broadcast S256x256 (Scalar.ofBits .bf16 0x0000#16))

/-- A tile's part of the output. -/
def partS (w : FVec F S256x256 .bf16) (v : FVec F S256x128 .bf16) : FVec F S256x128 .f32 :=
  matmul dot_S256x256_S256x128_S256x128_1_0_0_1_n_n none w v (constant S256x128 .f32 0x00000000#32)

/-- The zero block. -/
def zeroS : FVec F S256x128 .f32 := broadcast S256x128 (Scalar.ofBits .f32 0x00000000#32)

/-- The scores of a tile of 512 queries by 512 keys. -/
def scoreW (q k : FVec F S512x128 .bf16) : FVec F S512x512 .bf16 :=
  truncf .bf16 (matmul dot_S512x128_S512x128_S512x512_1_1_0_0_n_n none q k (constant S512x512 .f32 0x00000000#32)) bitsLt_bf16_f32

/-- The logarithm of the sigmoid of the scores, 512 by 512. -/
def takeW (z : FVec F S512x512 .bf16) : FVec F S512x512 .bf16 :=
  subf (minimumf z (broadcast S512x512 (Scalar.ofBits .bf16 0x0000#16)))
    (log (addf (broadcast S512x512 (Scalar.ofBits .bf16 0x3F80#16)) (exp (subf (broadcast S512x512 (Scalar.ofBits .bf16 0x0000#16)) (absf z)))))

/-- The logarithm of what the scores leave of the stick, 512 by 512. -/
def leaveW (z : FVec F S512x512 .bf16) : FVec F S512x512 .bf16 := subf (takeW z) z

/-- The sums of 128 columns of the tile from column `o` on. -/
def sumsW (o : ℕ) (h : S512x512.Slices ![0, o] S512x128) (l : FVec F S512x512 .bf16) : FVec F S512x256 .f32 :=
  matmul dot_S512x128_S128x256_S512x256_1_0_0_1_n_n none (extractStridedSlice S512x128 ![0, o] l h) k0_pay300 (constant S512x256 .f32 0x00000000#32)

/-- What is carried past 128 columns. -/
def overW (s : FVec F S512x256 .f32) (c : FVec F S512x128 .f32) : FVec F S512x128 .f32 :=
  addf c (extractStridedSlice S512x128 ![0, 128] s slices_S512x256_o0_128_S512x128)

/-- The sums over the later keys, for 128 columns. -/
def underW (s : FVec F S512x256 .f32) (c : FVec F S512x128 .f32) : FVec F S512x128 .bf16 :=
  truncf .bf16 (addf (extractStridedSlice S512x128 ![0, 0] s slices_S512x256_o0_0_S512x128) c) bitsLt_bf16_f32

/-- What is carried past a tile of 512 keys. -/
def pastW (l : FVec F S512x512 .bf16) (c : FVec F S512x128 .f32) : FVec F S512x128 .f32 :=
  overW (sumsW 0 slices_S512x512_o0_0_S512x128 l) (overW (sumsW 128 slices_S512x512_o0_128_S512x128 l)
    (overW (sumsW 256 slices_S512x512_o0_256_S512x128 l) (overW (sumsW 384 slices_S512x512_o0_384_S512x128 l) c)))

/-- The sums over the later keys, for each of the tile's 512 keys. -/
def laterW (l : FVec F S512x512 .bf16) (c : FVec F S512x128 .f32) : FVec F S512x512 .bf16 :=
  concatenate S512x512 1
    [⟨S512x128, underW (sumsW 0 slices_S512x512_o0_0_S512x128 l) (overW (sumsW 128 slices_S512x512_o0_128_S512x128 l)
      (overW (sumsW 256 slices_S512x512_o0_256_S512x128 l) (overW (sumsW 384 slices_S512x512_o0_384_S512x128 l) c)))⟩,
     ⟨S512x128, underW (sumsW 128 slices_S512x512_o0_128_S512x128 l)
      (overW (sumsW 256 slices_S512x512_o0_256_S512x128 l) (overW (sumsW 384 slices_S512x512_o0_384_S512x128 l) c))⟩,
     ⟨S512x128, underW (sumsW 256 slices_S512x512_o0_256_S512x128 l) (overW (sumsW 384 slices_S512x512_o0_384_S512x128 l) c)⟩,
     ⟨S512x128, underW (sumsW 384 slices_S512x512_o0_384_S512x128 l) c⟩]
    concatenates_S512x128_S512x128_S512x128_S512x128_S512x512_d1

/-- The weights of a tile of 512 keys. -/
def weightW (z : FVec F S512x512 .bf16) (c : FVec F S512x128 .f32) : FVec F S512x512 .bf16 :=
  exp (addf (takeW z) (laterW (leaveW z) c))

/-- A tile's part of the output. -/
def partW (w : FVec F S512x512 .bf16) (v : FVec F S512x128 .bf16) : FVec F S512x128 .f32 :=
  matmul dot_S512x512_S512x128_S512x128_1_0_0_1_n_n none w v (constant S512x128 .f32 0x00000000#32)

/-- 256 rows of a head, as a matrix. -/
def flatS (x : Vec F S1x256x128 .bf16) : FVec F S256x128 .bf16 := shapeCast S256x128 x shapeCasts_S1x256x128_S256x128

/-- 512 rows of a head, as a matrix. -/
def flatW (x : Vec F S1x512x128 .bf16) : FVec F S512x128 .bf16 := shapeCast S512x128 x shapeCasts_S1x512x128_S512x128

/-- The output of 256 queries from the tile on the diagonal. -/
def diagAcc (q k v : Vec F S1x256x128 .bf16) : FVec F S256x128 .f32 :=
  addf zeroS (partS (weightM (scoreS (flatS q) (flatS k)) zeroS) (flatS v))

/-- What is carried past the tile on the diagonal. -/
def diagPast (q k : Vec F S1x256x128 .bf16) : FVec F S256x128 .f32 :=
  pastS (leaveM (scoreS (flatS q) (flatS k))) zeroS

/-- The output of the second 256 queries of a square of 512: the diagonal's tile, then the tile beside it. -/
def nextAcc (q k v k' v' : Vec F S1x256x128 .bf16) : FVec F S256x128 .f32 :=
  addf (diagAcc q k v) (partS (weightS (scoreS (flatS q) (flatS k')) (diagPast q k)) (flatS v'))

/-- What the second 256 queries carry past the square. -/
def nextPast (q k k' : Vec F S1x256x128 .bf16) : FVec F S256x128 .f32 :=
  pastS (leaveS (scoreS (flatS q) (flatS k'))) (diagPast q k)

/-- The output of 512 queries from the square on the diagonal. -/
def squareAcc (q k v q' k' v' : Vec F S1x256x128 .bf16) : FVec F S512x128 .f32 :=
  concatenate S512x128 0 [⟨S256x128, diagAcc q k v⟩, ⟨S256x128, nextAcc q' k' v' k v⟩] concatenates_S256x128_S256x128_S512x128_d0

/-- What 512 queries carry past the square on the diagonal. -/
def squarePast (q k q' k' : Vec F S1x256x128 .bf16) : FVec F S512x128 .f32 :=
  concatenate S512x128 0 [⟨S256x128, diagPast q k⟩, ⟨S256x128, nextPast q' k' k⟩] concatenates_S256x128_S256x128_S512x128_d0

/-- The output after one more tile of 512 keys. -/
def wideAcc (q k v : Vec F S1x512x128 .bf16) (a c : FVec F S512x128 .f32) : FVec F S512x128 .f32 :=
  addf a (partW (weightW (scoreW (flatW q) (flatW k)) c) (flatW v))

/-- What is carried past one more tile of 512 keys. -/
def widePast (q k : Vec F S1x512x128 .bf16) (c : FVec F S512x128 .f32) : FVec F S512x128 .f32 :=
  pastW (leaveW (scoreW (flatW q) (flatW k))) c

/-- The output times the gate, in the result's type. -/
def gated (g : Vec F S1x512x128 .bf16) (a : FVec F S512x128 .f32) : FVec F S1x512x128 .bf16 :=
  shapeCast S1x512x128 (truncf .bf16 (mulf a (mulf (extf .f32 (flatW g) bitsLt_bf16_f32)
    (divf (broadcast S512x128 (Scalar.ofBits .f32 0x3F800000#32)) (addf (broadcast S512x128 (Scalar.ofBits .f32 0x3F800000#32))
      (exp (subf (broadcast S512x128 (Scalar.ofBits .f32 0x00000000#32)) (extf .f32 (flatW g) bitsLt_bf16_f32))))))) bitsLt_bf16_f32)
    shapeCasts_S512x128_S1x512x128

/-- What is stored for queries 0 to 511. -/
theorem stored0 (ks0 ks1 qs0 qs1 vs0 vs1 : Vec F S1x256x128 .bf16) (gw0 : Vec F S1x512x128 .bf16) :
    k0_pay318 (k0_pay315 k0_pay300 (k0_pay304 k0_pay300 k0_pay301 (k0_pay302 qs0) k0_pay303 ks0 vs0) (k0_pay305 qs1) (k0_pay313 k0_pay300 k0_pay301
      (k0_pay305 qs1) ks1) (k0_pay314 k0_pay300 k0_pay301 (k0_pay305 qs1) ks1 vs1) ks0 vs0) (k0_pay316 gw0) (k0_pay317 gw0) =
    gated gw0 (squareAcc qs0 ks0 vs0 qs1 ks1 vs1) := rfl

/-- What is stored for queries 512 to 1023. -/
theorem stored1 (ks2 ks3 qs2 qs3 vs2 vs3 : Vec F S1x256x128 .bf16) (gw1 kw0 qw1 vw0 : Vec F S1x512x128 .bf16) :
    k0_pay365 k0_pay300 (k0_pay353 (k0_pay330 k0_pay300 k0_pay301 k0_pay319 (k0_pay321 vs2) (k0_pay323 qs2 ks2) (k0_pay324 k0_pay301 qs2 ks2)
      (k0_pay326 k0_pay300 k0_pay301 qs2 ks2) (k0_pay327 k0_pay300 k0_pay301 qs2 ks2)) (k0_pay343 k0_pay300 k0_pay301 k0_pay332 k0_pay333 (k0_pay334
      vs3) (k0_pay336 qs3 ks3) (k0_pay337 k0_pay301 qs3 ks3) (k0_pay338 k0_pay300 k0_pay301 qs3 ks3) (k0_pay339 k0_pay300 k0_pay301 qs3 ks3))
      (k0_pay344 vs2) (k0_pay346 (k0_pay331 qs3) ks2) (k0_pay349 k0_pay300 (k0_pay331 qs3) k0_pay333 (k0_pay337 k0_pay301 qs3 ks3) (k0_pay338
      k0_pay300 k0_pay301 qs3 ks3) ks2) (k0_pay350 k0_pay300 (k0_pay331 qs3) k0_pay333 (k0_pay337 k0_pay301 qs3 ks3) (k0_pay338 k0_pay300 k0_pay301
      qs3 ks3) ks2) (k0_pay352 k0_pay300 (k0_pay331 qs3) ks2)) (k0_pay355 vw0) (k0_pay357 qw1 kw0) (k0_pay358 qw1 kw0) (k0_pay360 k0_pay300 (k0_pay329
      k0_pay300 (k0_pay324 k0_pay301 qs2 ks2) (k0_pay327 k0_pay300 k0_pay301 qs2 ks2)) (k0_pay350 k0_pay300 (k0_pay331 qs3) k0_pay333 (k0_pay337
      k0_pay301 qs3 ks3) (k0_pay338 k0_pay300 k0_pay301 qs3 ks3) ks2) (k0_pay351 k0_pay300 (k0_pay331 qs3) ks2) qw1 kw0) (k0_pay363 k0_pay300
      (k0_pay329 k0_pay300 (k0_pay324 k0_pay301 qs2 ks2) (k0_pay327 k0_pay300 k0_pay301 qs2 ks2)) (k0_pay350 k0_pay300 (k0_pay331 qs3) k0_pay333
      (k0_pay337 k0_pay301 qs3 ks3) (k0_pay338 k0_pay300 k0_pay301 qs3 ks3) ks2) (k0_pay351 k0_pay300 (k0_pay331 qs3) ks2) qw1 kw0) (k0_pay364
      k0_pay300 (k0_pay329 k0_pay300 (k0_pay324 k0_pay301 qs2 ks2) (k0_pay327 k0_pay300 k0_pay301 qs2 ks2)) (k0_pay350 k0_pay300 (k0_pay331 qs3)
      k0_pay333 (k0_pay337 k0_pay301 qs3 ks3) (k0_pay338 k0_pay300 k0_pay301 qs3 ks3) ks2) (k0_pay351 k0_pay300 (k0_pay331 qs3) ks2) qw1 kw0) gw1 =
    gated gw1 (wideAcc qw1 kw0 vw0 (squareAcc qs2 ks2 vs2 qs3 ks3 vs3) (squarePast qs2 ks2 qs3 ks3)) := rfl

/-- What is stored for queries 1024 to 1535. -/
theorem stored2 (ks4 ks5 qs4 qs5 vs4 vs5 : Vec F S1x256x128 .bf16) (gw2 kw0 kw1 qw2 vw0 vw1 : Vec F S1x512x128 .bf16) :
    k0_pay415 (k0_pay414 k0_pay300 (k0_pay398 qw2) (k0_pay411 k0_pay300 (k0_pay397 k0_pay300 (k0_pay376 k0_pay300 k0_pay301 (k0_pay366 qs4) k0_pay368
      (k0_pay369 ks4)) (k0_pay378 qs5) (k0_pay387 k0_pay300 k0_pay301 (k0_pay378 qs5) k0_pay380 ks5) (k0_pay389 ks4)) (k0_pay398 qw2) (k0_pay399 kw1))
      (k0_pay412 k0_pay300 (k0_pay396 k0_pay300 (k0_pay377 k0_pay300 k0_pay301 (k0_pay366 qs4) k0_pay367 k0_pay368 (k0_pay369 ks4) vs4) (k0_pay378
      qs5) (k0_pay387 k0_pay300 k0_pay301 (k0_pay378 qs5) k0_pay380 ks5) (k0_pay388 k0_pay300 k0_pay301 (k0_pay378 qs5) k0_pay379 k0_pay380 ks5 vs5)
      (k0_pay389 ks4) vs4) (k0_pay397 k0_pay300 (k0_pay376 k0_pay300 k0_pay301 (k0_pay366 qs4) k0_pay368 (k0_pay369 ks4)) (k0_pay378 qs5) (k0_pay387
      k0_pay300 k0_pay301 (k0_pay378 qs5) k0_pay380 ks5) (k0_pay389 ks4)) (k0_pay398 qw2) (k0_pay399 kw1) (k0_pay400 vw1)) (k0_pay413 kw0) vw0) gw2 =
    gated gw2 (wideAcc qw2 kw0 vw0 (wideAcc qw2 kw1 vw1 (squareAcc qs4 ks4 vs4 qs5 ks5 vs5) (squarePast qs4 ks4 qs5 ks5)) (widePast qw2 kw1
      (squarePast qs4 ks4 qs5 ks5))) := rfl

/-- What is stored for queries 1536 to 2047. -/
theorem stored3 (ks6 ks7 qs6 qs7 vs6 vs7 : Vec F S1x256x128 .bf16) (gw3 kw0 kw1 kw2 qw3 vw0 vw1 vw2 : Vec F S1x512x128 .bf16) :
    k0_pay1 (k0_pay485 k0_pay300 (k0_pay479 k0_pay300 (k0_pay466 k0_pay300 (k0_pay452 k0_pay300 (k0_pay426 k0_pay300 k0_pay301 k0_pay417 (k0_pay421
      qs6 ks6)) (k0_pay441 k0_pay300 k0_pay301 k0_pay430 (k0_pay432 qs7 ks7) (k0_pay433 qs7 ks7) (k0_pay434 qs7 ks7) k0_pay435) (k0_pay446 (k0_pay428
      qs7) ks6) (k0_pay447 (k0_pay428 qs7) ks6)) (k0_pay457 qw3 kw2) (k0_pay458 k0_pay300 qw3 kw2)) (k0_pay471 (k0_pay453 qw3) kw1)) (k0_pay480
      k0_pay300 (k0_pay466 k0_pay300 (k0_pay452 k0_pay300 (k0_pay426 k0_pay300 k0_pay301 k0_pay417 (k0_pay421 qs6 ks6)) (k0_pay441 k0_pay300 k0_pay301
      k0_pay430 (k0_pay432 qs7 ks7) (k0_pay433 qs7 ks7) (k0_pay434 qs7 ks7) k0_pay435) (k0_pay446 (k0_pay428 qs7) ks6) (k0_pay447 (k0_pay428 qs7)
      ks6)) (k0_pay457 qw3 kw2) (k0_pay458 k0_pay300 qw3 kw2)) (k0_pay467 k0_pay300 (k0_pay451 k0_pay300 (k0_pay427 k0_pay300 k0_pay301 k0_pay416
      k0_pay417 (k0_pay418 vs6) (k0_pay420 qs6 ks6) (k0_pay421 qs6 ks6)) (k0_pay441 k0_pay300 k0_pay301 k0_pay430 (k0_pay432 qs7 ks7) (k0_pay433 qs7
      ks7) (k0_pay434 qs7 ks7) k0_pay435) (k0_pay442 k0_pay300 k0_pay301 k0_pay429 k0_pay430 (k0_pay431 vs7) (k0_pay432 qs7 ks7) (k0_pay433 qs7 ks7)
      (k0_pay434 qs7 ks7) k0_pay435) (k0_pay443 vs6) (k0_pay445 (k0_pay428 qs7) ks6) (k0_pay446 (k0_pay428 qs7) ks6) (k0_pay447 (k0_pay428 qs7) ks6))
      (k0_pay452 k0_pay300 (k0_pay426 k0_pay300 k0_pay301 k0_pay417 (k0_pay421 qs6 ks6)) (k0_pay441 k0_pay300 k0_pay301 k0_pay430 (k0_pay432 qs7 ks7)
      (k0_pay433 qs7 ks7) (k0_pay434 qs7 ks7) k0_pay435) (k0_pay446 (k0_pay428 qs7) ks6) (k0_pay447 (k0_pay428 qs7) ks6)) (k0_pay454 vw2) (k0_pay456
      qw3 kw2) (k0_pay457 qw3 kw2) (k0_pay458 k0_pay300 qw3 kw2) (k0_pay459 k0_pay300 (k0_pay426 k0_pay300 k0_pay301 k0_pay417 (k0_pay421 qs6 ks6))
      (k0_pay441 k0_pay300 k0_pay301 k0_pay430 (k0_pay432 qs7 ks7) (k0_pay433 qs7 ks7) (k0_pay434 qs7 ks7) k0_pay435) (k0_pay446 (k0_pay428 qs7) ks6)
      (k0_pay447 (k0_pay428 qs7) ks6) qw3 kw2)) (k0_pay468 vw1) (k0_pay470 (k0_pay453 qw3) kw1) (k0_pay471 (k0_pay453 qw3) kw1)) (k0_pay481 vw0)
      (k0_pay482 (k0_pay453 qw3) kw0) (k0_pay483 (k0_pay453 qw3) kw0) (k0_pay484 (k0_pay453 qw3) kw0) (FloatOps.ofBits FTy.bf16 16256#16) gw3) =
    gated gw3 (wideAcc qw3 kw0 vw0 (wideAcc qw3 kw1 vw1 (wideAcc qw3 kw2 vw2 (squareAcc qs6 ks6 vs6 qs7 ks7 vs7) (squarePast qs6 ks6 qs7 ks7))
      (widePast qw3 kw2 (squarePast qs6 ks6 qs7 ks7))) (widePast qw3 kw1 (widePast qw3 kw2 (squarePast qs6 ks6 qs7 ks7)))) := rfl

end Cert.Mix

end
-- ==== Proof.MixRow.lean ====
/- The stick-breaking attention of one query, over the reals: what a key takes, what it leaves, and the sums over the later keys. -/
module

public import Idealize.ShloMosaic.Lib.Pointwise
public import Mathlib.Algebra.BigOperators.Intervals
public import Mathlib.Analysis.SpecialFunctions.Log.Basic

@[expose] public section
noncomputable section
namespace Cert.Mix

open Idealize.ShloMosaic

/-- The logarithm of the part of the stick that a key with score `x` takes. -/
def take (x : ℝ) : ℝ := min x 0 - Real.log (1 + Real.exp (-|x|))

/-- The logarithm of the part of the stick that a key with score `x` leaves. -/
def leave (x : ℝ) : ℝ := take x - x

/-- What key `j` leaves to the earlier keys of query `t`: nothing changes where it is not before the query. -/
def left (z : ℕ → ℝ) (t j : ℕ) : ℝ := if j < t then leave (z j) else 0

/-- The sum over the keys from `b` on of what they leave. -/
def tail (z : ℕ → ℝ) (t b : ℕ) : ℝ := ∑ j ∈ Finset.Ico b 2048, left z t j

/-- The weight of key `s` for query `t`. -/
def weight (z : ℕ → ℝ) (t s : ℕ) : ℝ := if s < t then Real.exp (take (z s) + tail z t (s + 1)) else 0

/-- The part of the output of query `t` that comes from the keys from `b` on. -/
def gathered (z : ℕ → ℝ) (v : ℕ → EReal) (t b : ℕ) : EReal := ∑ s ∈ Finset.Ico b 2048, (weight z t s : EReal) * v s

/-- A sum of reals is the same in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum over an interval, from a sum over the numbers below its length. -/
theorem sum_block {M : Type} [AddCommMonoid M] (f : ℕ → M) (b n : ℕ) : ∑ j ∈ Finset.Ico b (b + n), f j = ∑ i : Fin n, f (b + i.val) := by
  rw [Finset.sum_Ico_eq_sum_range, Nat.add_sub_cancel_left, ← Fin.sum_univ_eq_sum_range (fun i => f (b + i))]

/-- The sum from `b` on is `n` terms and the sum from `b + n` on. -/
theorem sum_from {M : Type} [AddCommMonoid M] (f : ℕ → M) (b n N : ℕ) (h : b + n ≤ N) :
    ∑ j ∈ Finset.Ico b N, f j = (∑ i : Fin n, f (b + i.val)) + ∑ j ∈ Finset.Ico (b + n) N, f j := by
  rw [← sum_block, Finset.sum_Ico_consecutive f (Nat.le_add_right b n) h]

/-- The sum of `n` terms after the first `c + 1` is the sum of all of them with the others put at zero. -/
theorem sum_after (f : ℕ → ℝ) (b n c : ℕ) (hc : c < n) :
    ∑ j ∈ Finset.Ico (b + c + 1) (b + n), f j = ∑ i : Fin n, if c < i.val then f (b + i.val) else 0 := by
  have h1 := sum_block (fun j => if b + c < j then f j else 0) b n
  simp only [Nat.add_lt_add_iff_left] at h1
  rw [← h1, ← Finset.sum_filter]
  refine Finset.sum_congr (Finset.ext fun j => ?_) fun _ _ => rfl
  simp only [Finset.mem_Ico, Finset.mem_filter]; omega

/-- The tail from `b` on, 128 keys at a time. -/
theorem tail_step (z : ℕ → ℝ) (t b : ℕ) (h : b + 128 ≤ 2048) :
    ((tail z t b : ℝ) : EReal) = (tail z t (b + 128) : EReal) + ∑ i : Fin 128, (left z t (b + i.val) : EReal) := by
  unfold tail
  rw [sum_from (left z t) b 128 2048 h, EReal.coe_add, coe_sum, add_comm]

/-- The tail after key `b + c`, from the other keys of its 128 and the tail after them. -/
theorem tail_within (z : ℕ → ℝ) (t b c : ℕ) (hc : c < 128) (h : b + 128 ≤ 2048) :
    ((tail z t (b + c + 1) : ℝ) : EReal) = (∑ i : Fin 128, if c < i.val then (left z t (b + i.val) : EReal) else 0) + (tail z t (b + 128) : EReal) := by
  have h1 : tail z t (b + c + 1) = (∑ i : Fin 128, if c < i.val then left z t (b + i.val) else 0) + tail z t (b + 128) := by
    unfold tail
    rw [← sum_after _ _ _ _ hc, Finset.sum_Ico_consecutive _ (by omega) h]
  rw [h1, EReal.coe_add, coe_sum]
  refine congrArg (· + _) (Finset.sum_congr rfl fun i _ => ?_)
  split <;> rfl

/-- Past the query nothing is left. -/
theorem tail_past (z : ℕ → ℝ) (t b : ℕ) (h : t ≤ b) : tail z t b = 0 := by
  unfold tail left
  refine Finset.sum_eq_zero fun j hj => if_neg ?_
  have := (Finset.mem_Ico.1 hj).1; omega

/-- Past the query nothing is gathered. -/
theorem gathered_past (z : ℕ → ℝ) (v : ℕ → EReal) (t b : ℕ) (h : t ≤ b) : gathered z v t b = 0 := by
  unfold gathered weight
  refine Finset.sum_eq_zero fun j hj => ?_
  have := (Finset.mem_Ico.1 hj).1
  rw [if_neg (by omega)]; simp

/-- What is gathered, one tile of keys at a time. -/
theorem gathered_step (z : ℕ → ℝ) (v : ℕ → EReal) (t b n : ℕ) (h : b + n ≤ 2048) :
    gathered z v t b = gathered z v t (b + n) + ∑ i : Fin n, (weight z t (b + i.val) : EReal) * v (b + i.val) := by
  unfold gathered
  rw [sum_from _ b n 2048 h, add_comm]

/-- Where the tail starts at the key's successor, the sum of the tail and what the key leaves is the tail from the key on. -/
theorem tail_succ (z : ℕ → ℝ) (t s : ℕ) (h : s < 2048) : tail z t s - left z t s = tail z t (s + 1) := by
  unfold tail
  rw [Finset.sum_eq_sum_Ico_succ_bot h]; ring

/-- The greater of two reals is the same in the extended reals. -/
theorem coe_max' (x y : ℝ) : ((max x y : ℝ) : EReal) = max (x : EReal) (y : EReal) := EReal.coe_strictMono.monotone.map_max

/-- The lesser of two reals is the same in the extended reals. -/
theorem coe_min' (x y : ℝ) : ((min x y : ℝ) : EReal) = min (x : EReal) (y : EReal) := EReal.coe_strictMono.monotone.map_min

/-- The logarithm of one plus an exponential, in the extended reals. -/
theorem log_one_add_exp (x : ℝ) : Ideal.log (1 + Ideal.exp (x : EReal)) = (Real.log (1 + Real.exp x) : EReal) := by
  rw [Ideal.exp_coe, ← EReal.coe_one, ← EReal.coe_add, Ideal.log_coe, if_neg (by have := Real.exp_pos x; push Not; positivity)]

/-- What a key takes, as it is computed in the extended reals. -/
theorem take_coe (x : ℝ) :
    min (x : EReal) 0 - Ideal.log (1 + Ideal.exp (0 - max (x : EReal) (-(x : EReal)))) = (take x : EReal) := by
  have h : (0 : EReal) - max (x : EReal) (-(x : EReal)) = ((-|x| : ℝ) : EReal) := by
    rw [← EReal.coe_neg, ← coe_max', ← EReal.coe_zero, ← EReal.coe_sub, zero_sub]; rfl
  rw [h, log_one_add_exp, ← EReal.coe_zero, ← coe_min', ← EReal.coe_sub]; rfl

/-- The negative of the softplus of `-x` is what a key takes. -/
theorem soft_take (x : ℝ) :
    -(max (-(x : EReal)) 0 + Ideal.log1p (Ideal.exp (-max (-(x : EReal)) (- -(x : EReal))))) = (take x : EReal) := by
  have h : -max (-(x : EReal)) (- -(x : EReal)) = ((-|x| : ℝ) : EReal) := by
    rw [← EReal.coe_neg, ← EReal.coe_neg, ← coe_max', ← EReal.coe_neg, ← abs_neg x]; rfl
  rw [h, Ideal.log1p, log_one_add_exp, ← EReal.coe_zero, ← EReal.coe_neg, ← coe_max', ← EReal.coe_add, ← EReal.coe_neg]
  refine congrArg _ ?_
  unfold take
  have : max (-x) 0 = -min x 0 := by rw [← neg_zero, max_neg_neg, neg_zero]
  rw [this]; ring

/-- What a key with score `x` leaves is what a key with score `-x` takes. -/
theorem take_neg (x : ℝ) : take (-x) = leave x := by
  unfold leave take
  have : min (-x) 0 = min x 0 - x := by
    rcases le_total x 0 with h | h
    · rw [min_eq_right (by linarith), min_eq_left h]; ring
    · rw [min_eq_left (by linarith), min_eq_right h]; ring
  rw [abs_neg, this]; ring

end Cert.Mix

end
-- ==== Proof.MixTileAt.lean ====
/- The attention's tiles, read at an index: each is what a tile of keys takes, leaves, carries and gathers. -/
module

public import proofs.«01_k».proof.Proof.MixTile
public import proofs.«01_k».proof.Proof.MixRow

@[expose] public section
set_option maxRecDepth 16384
noncomputable section
namespace Cert.Mix

open Cert.KernelIdeal Cert.KernelIdeal.Gen
open Idealize.ShloMosaic Idealize.ShloMosaic.TcCoe Idealize.ShloMosaic.Tactic

/-- Signed comparison of two small numbers. -/
theorem slt_small (a b : ℕ) (ha : a < 512) (hb : b < 512) (x y : EReal) :
    Scalar.select (IntOp.cmpi .slt (BitVec.ofNat 32 a) (BitVec.ofNat 32 b)) x y = if a < b then x else y := by
  rw [WordCmp.cmpi_slt_ofNat (by norm_num; omega) (by norm_num; omega)]
  unfold Scalar.select
  by_cases h : a < b <;> simp [h]

theorem sgt_small (a b : ℕ) (ha : a < 512) (hb : b < 512) (x y : EReal) :
    Scalar.select (IntOp.cmpi .sgt (BitVec.ofNat 32 a) (BitVec.ofNat 32 b)) x y = if b < a then x else y :=
  slt_small b a hb ha x y

/-- The matrix that sums the later columns, and beside it all the columns. -/
theorem ext_at (i : Fin 128) (c : Fin 256) :
    (k0_pay300 (F := Ideal) (ix2 i c) : EReal) = if c.val < 128 then (if c.val < i.val then 1 else 0) else 1 := by
  pointwise [k0_pay300]
  by_cases h : c.val < 128
  · rw [dif_pos h, if_pos h]; exact sgt_small _ _ (by omega) (by omega) _ _
  · rw [dif_neg h, if_neg h]

/-- The mask of the tile on the diagonal. -/
theorem mask_at (p n : Fin 256) (x y : EReal) :
    Scalar.select (k0_pay301 (ix2 p n)) x y = if n.val < p.val then x else y := by
  pointwise [k0_pay301]
  exact slt_small _ _ (by omega) (by omega) _ _

/-- The product with the matrix's first half sums the later columns. -/
theorem sum_later (x : Fin 128 → EReal) (d : Fin 128) (hd : d.val < 256) :
    ∑ i : Fin 128, x i * (k0_pay300 (F := Ideal) (ix2 i ⟨d.val, hd⟩) : EReal) = ∑ i : Fin 128, if d.val < i.val then x i else 0 := by
  refine Finset.sum_congr rfl fun i _ => ?_
  rw [ext_at, if_pos d.isLt]
  split <;> simp

/-- The product with the matrix's second half sums all the columns. -/
theorem sum_all (x : Fin 128 → EReal) (d : ℕ) (hd : 128 + d < 256) :
    ∑ i : Fin 128, x i * (k0_pay300 (F := Ideal) (ix2 i ⟨128 + d, hd⟩) : EReal) = ∑ i : Fin 128, x i := by
  refine Finset.sum_congr rfl fun i _ => ?_
  rw [ext_at, if_neg (by show ¬128 + d < 128; omega), mul_one]

theorem scoreS_at (q k : FVec Ideal S256x128 .bf16) (p n : Fin 256) :
    (scoreS q k (ix2 p n) : EReal) = ∑ d : Fin 128, (q (ix2 p d) : EReal) * k (ix2 n d) := by
  pointwise [scoreS]

theorem takeS_at (z : FVec Ideal S256x256 .bf16) (p n : Fin 256) (x : ℝ) (h : (z (ix2 p n) : EReal) = x) :
    (takeS z (ix2 p n) : EReal) = take x := by
  rw [← take_coe, ← h]
  pointwise [takeS]
  rfl

theorem leaveS_at (z : FVec Ideal S256x256 .bf16) (p n : Fin 256) (x : ℝ) (h : (z (ix2 p n) : EReal) = x) :
    (leaveS z (ix2 p n) : EReal) = leave x := by
  unfold leave
  rw [EReal.coe_sub, ← takeS_at z p n x h, ← h]
  rfl

theorem leaveM_at (z : FVec Ideal S256x256 .bf16) (p n : Fin 256) (x : ℝ) (h : (z (ix2 p n) : EReal) = x) :
    (leaveM z (ix2 p n) : EReal) = if n.val < p.val then (leave x : EReal) else 0 := by
  have e : (leaveM z (ix2 p n) : EReal) = Scalar.select (k0_pay301 (ix2 p n)) (leaveS z (ix2 p n) : EReal) 0 := by
    unfold leaveM
    generalize leaveS z = l
    pointwise []
  rw [e, mask_at, leaveS_at z p n x h]

theorem sumsS1_at (l : FVec Ideal S256x256 .bf16) (p c : Fin 256) :
    (sumsS1 l (ix2 p c) : EReal) = ∑ i : Fin 128, (l (ix2 p ⟨128 + i.val, by omega⟩) : EReal) * k0_pay300 (F := Ideal) (ix2 i c) := by
  pointwise [sumsS1]

theorem sumsS0_at (l : FVec Ideal S256x256 .bf16) (p c : Fin 256) :
    (sumsS0 l (ix2 p c) : EReal) = ∑ i : Fin 128, (l (ix2 p ⟨i.val, by omega⟩) : EReal) * k0_pay300 (F := Ideal) (ix2 i c) := by
  pointwise [sumsS0]

theorem pastS1_eq (l : FVec Ideal S256x256 .bf16) (c : FVec Ideal S256x128 .f32) (p : Fin 256) (d : Fin 128) :
    (pastS1 l c (ix2 p d) : EReal) = c (ix2 p d) + sumsS1 l (ix2 p ⟨128 + d.val, by omega⟩) := by
  pointwise [pastS1]

theorem pastS_eq (l : FVec Ideal S256x256 .bf16) (c : FVec Ideal S256x128 .f32) (p : Fin 256) (d : Fin 128) :
    (pastS l c (ix2 p d) : EReal) = pastS1 l c (ix2 p d) + sumsS0 l (ix2 p ⟨128 + d.val, by omega⟩) := by
  pointwise [pastS]

theorem laterS_eq (l : FVec Ideal S256x256 .bf16) (c : FVec Ideal S256x128 .f32) (p n : Fin 256) :
    (laterS l c (ix2 p n) : EReal) = if h : n.val < 128 then
      (sumsS0 l (ix2 p ⟨n.val, by omega⟩) + pastS1 l c (ix2 p ⟨n.val, h⟩) : EReal)
      else (sumsS1 l (ix2 p ⟨n.val - 128, by omega⟩) + c (ix2 p ⟨n.val - 128, by omega⟩) : EReal) := by
  pointwise [laterS]

theorem partS_at (w : FVec Ideal S256x256 .bf16) (v : FVec Ideal S256x128 .bf16) (p : Fin 256) (d : Fin 128) :
    (partS w v (ix2 p d) : EReal) = ∑ n : Fin 256, (w (ix2 p n) : EReal) * v (ix2 n d) := by
  pointwise [partS]

section small
variable (z : ℕ → ℝ) (t b : ℕ) (hb : b + 256 ≤ 2048) (l : FVec Ideal S256x256 .bf16) (c : FVec Ideal S256x128 .f32) (p : Fin 256)
  (hl : ∀ n : Fin 256, (l (ix2 p n) : EReal) = (left z t (b + n.val) : EReal)) (hc : ∀ d : Fin 128, (c (ix2 p d) : EReal) = (tail z t (b + 256) : EReal))
include hb hl hc

/-- What is carried past the last 128 keys of a tile is the tail from them on. -/
theorem pastS1_at (d : Fin 128) : (pastS1 l c (ix2 p d) : EReal) = (tail z t (b + 128) : EReal) := by
  rw [pastS1_eq, sumsS1_at, sum_all, hc, tail_step z t (b + 128) (by omega)]
  refine congrArg₂ (· + ·) rfl (Finset.sum_congr rfl fun i _ => ?_)
  rw [hl]; exact congrArg (fun n => (left z t n : EReal)) (by show b + (128 + i.val) = _; omega)

/-- What is carried past a tile is the tail from it on. -/
theorem pastS_at (d : Fin 128) : (pastS l c (ix2 p d) : EReal) = (tail z t b : EReal) := by
  rw [pastS_eq, sumsS0_at, sum_all, pastS1_at z t b hb l c p hl hc, tail_step z t b (by omega)]
  exact congrArg₂ (· + ·) rfl (Finset.sum_congr rfl fun i _ => hl _)

/-- The sums over the later keys of a tile's keys are the tails after them. -/
theorem laterS_at (n : Fin 256) : (laterS l c (ix2 p n) : EReal) = (tail z t (b + n.val + 1) : EReal) := by
  rw [laterS_eq]
  by_cases h : n.val < 128
  · rw [dif_pos h, sumsS0_at, sum_later _ ⟨n.val, h⟩, pastS1_at z t b hb l c p hl hc, tail_within z t b n.val h (by omega)]
    refine congrArg₂ (· + ·) (Finset.sum_congr rfl fun i _ => ?_) rfl
    rw [hl]
  · have hn := n.isLt
    have e : b + n.val + 1 = b + 128 + (n.val - 128) + 1 := by omega
    rw [dif_neg h, sumsS1_at, sum_later _ ⟨n.val - 128, by omega⟩, hc, e, tail_within z t (b + 128) (n.val - 128) (by omega) (by omega)]
    refine congrArg₂ (· + ·) (Finset.sum_congr rfl fun i _ => ?_) rfl
    rw [hl]
    exact congrArg (fun m => if n.val - 128 < i.val then (left z t m : EReal) else 0) (by show b + (128 + i.val) = _; omega)

end small

/-- The exponential of a sum of reals. -/
theorem exp_add_coe (x y : ℝ) : Ideal.exp ((x : EReal) + (y : EReal)) = (Real.exp (x + y) : EReal) := by
  rw [← EReal.coe_add, Ideal.exp_coe]

theorem weightS_eq (z : FVec Ideal S256x256 .bf16) (c : FVec Ideal S256x128 .f32) (p n : Fin 256) :
    (weightS z c (ix2 p n) : EReal) = Ideal.exp ((takeS z (ix2 p n) : EReal) + laterS (leaveS z) c (ix2 p n)) := by
  pointwise [weightS]

theorem weightM_eq (z : FVec Ideal S256x256 .bf16) (c : FVec Ideal S256x128 .f32) (p n : Fin 256) :
    (weightM z c (ix2 p n) : EReal)
      = Scalar.select (k0_pay301 (ix2 p n)) (Ideal.exp ((takeS z (ix2 p n) : EReal) + laterS (leaveM z) c (ix2 p n))) 0 := by
  unfold weightM
  generalize takeS z = x
  generalize laterS (leaveM z) c = y
  pointwise []

/-- The weights of a tile of keys before the query. -/
theorem weightS_at (zr : ℕ → ℝ) (t b : ℕ) (hb : b + 256 ≤ 2048) (ht : b + 256 ≤ t) (z : FVec Ideal S256x256 .bf16) (c : FVec Ideal S256x128 .f32)
    (p : Fin 256) (hz : ∀ n : Fin 256, (z (ix2 p n) : EReal) = (zr (b + n.val) : EReal)) (hc : ∀ d : Fin 128, (c (ix2 p d) : EReal) = (tail zr t (b + 256) : EReal))
    (n : Fin 256) : (weightS z c (ix2 p n) : EReal) = (weight zr t (b + n.val) : EReal) ∧
      ∀ d : Fin 128, (pastS (leaveS z) c (ix2 p d) : EReal) = (tail zr t b : EReal) := by
  have hl : ∀ n : Fin 256, (leaveS z (ix2 p n) : EReal) = (left zr t (b + n.val) : EReal) := fun n => by
    rw [leaveS_at z p n _ (hz n)]; unfold left; rw [if_pos (by omega)]
  refine ⟨?_, pastS_at zr t b hb _ c p hl hc⟩
  rw [weightS_eq, takeS_at z p n _ (hz n), laterS_at zr t b hb _ c p hl hc, exp_add_coe]
  unfold weight; rw [if_pos (by omega)]

/-- The weights of the tile of keys on the diagonal. -/
theorem weightM_at (zr : ℕ → ℝ) (b : ℕ) (hb : b + 256 ≤ 2048) (z : FVec Ideal S256x256 .bf16) (c : FVec Ideal S256x128 .f32)
    (p : Fin 256) (hz : ∀ n : Fin 256, (z (ix2 p n) : EReal) = (zr (b + n.val) : EReal))
    (hc : ∀ d : Fin 128, (c (ix2 p d) : EReal) = (tail zr (b + p.val) (b + 256) : EReal))
    (n : Fin 256) : (weightM z c (ix2 p n) : EReal) = (weight zr (b + p.val) (b + n.val) : EReal) ∧
      ∀ d : Fin 128, (pastS (leaveM z) c (ix2 p d) : EReal) = (tail zr (b + p.val) b : EReal) := by
  have hl : ∀ n : Fin 256, (leaveM z (ix2 p n) : EReal) = (left zr (b + p.val) (b + n.val) : EReal) := fun n => by
    rw [leaveM_at z p n _ (hz n)]; unfold left; simp only [Nat.add_lt_add_iff_left]; split <;> rfl
  refine ⟨?_, pastS_at zr (b + p.val) b hb _ c p hl hc⟩
  rw [weightM_eq, takeS_at z p n _ (hz n), laterS_at zr (b + p.val) b hb _ c p hl hc, exp_add_coe, mask_at]
  unfold weight; simp only [Nat.add_lt_add_iff_left]; split <;> rfl

theorem scoreW_at (q k : FVec Ideal S512x128 .bf16) (p n : Fin 512) :
    (scoreW q k (ix2 p n) : EReal) = ∑ d : Fin 128, (q (ix2 p d) : EReal) * k (ix2 n d) := by
  pointwise [scoreW]

theorem takeW_at (z : FVec Ideal S512x512 .bf16) (p n : Fin 512) (x : ℝ) (h : (z (ix2 p n) : EReal) = x) :
    (takeW z (ix2 p n) : EReal) = take x := by
  rw [← take_coe, ← h]
  pointwise [takeW]
  rfl

theorem leaveW_at (z : FVec Ideal S512x512 .bf16) (p n : Fin 512) (x : ℝ) (h : (z (ix2 p n) : EReal) = x) :
    (leaveW z (ix2 p n) : EReal) = leave x := by
  unfold leave
  rw [EReal.coe_sub, ← takeW_at z p n x h, ← h]
  rfl

theorem sumsW_at (o : ℕ) (h : S512x512.Slices ![0, o] S512x128) (ho : o + 128 ≤ 512) (l : FVec Ideal S512x512 .bf16) (p : Fin 512) (c : Fin 256) :
    (sumsW o h l (ix2 p c) : EReal) = ∑ i : Fin 128, (l (ix2 p ⟨o + i.val, by omega⟩) : EReal) * k0_pay300 (F := Ideal) (ix2 i c) := by
  pointwise [sumsW]

theorem overW_eq (s : FVec Ideal S512x256 .f32) (c : FVec Ideal S512x128 .f32) (p : Fin 512) (d : Fin 128) :
    (overW s c (ix2 p d) : EReal) = c (ix2 p d) + s (ix2 p ⟨128 + d.val, by omega⟩) := by
  pointwise [overW]

theorem underW_eq (s : FVec Ideal S512x256 .f32) (c : FVec Ideal S512x128 .f32) (p : Fin 512) (d : Fin 128) :
    (underW s c (ix2 p d) : EReal) = s (ix2 p ⟨d.val, by omega⟩) + c (ix2 p d) := by
  pointwise [underW]

section quarter
variable (z : ℕ → ℝ) (t b b' o : ℕ) (h : S512x512.Slices ![0, o] S512x128) (ho : o + 128 ≤ 512) (hb : b + 128 ≤ 2048) (hb' : b' = b + 128)
  (l : FVec Ideal S512x512 .bf16) (c : FVec Ideal S512x128 .f32) (p : Fin 512)
  (hl : ∀ i : Fin 128, (l (ix2 p ⟨o + i.val, by omega⟩) : EReal) = (left z t (b + i.val) : EReal))
  (hc : ∀ d : Fin 128, (c (ix2 p d) : EReal) = (tail z t b' : EReal))
include hb hb' ho hl hc

/-- What is carried past 128 keys is the tail from them on. -/
theorem overW_at (d : Fin 128) : (overW (sumsW o h l) c (ix2 p d) : EReal) = (tail z t b : EReal) := by
  subst hb'
  rw [overW_eq, sumsW_at o h ho, sum_all, hc, tail_step z t b hb]
  exact congrArg₂ (· + ·) rfl (Finset.sum_congr rfl fun i _ => hl i)

/-- The sums over the later keys of 128 keys are the tails after them. -/
theorem underW_at (d : Fin 128) : (underW (sumsW o h l) c (ix2 p d) : EReal) = (tail z t (b + d.val + 1) : EReal) := by
  subst hb'
  rw [underW_eq, sumsW_at o h ho, sum_later _ d, hc, tail_within z t b d.val d.isLt hb]
  refine congrArg₂ (· + ·) (Finset.sum_congr rfl fun i _ => ?_) rfl
  rw [hl]

end quarter

theorem laterW_eq (l : FVec Ideal S512x512 .bf16) (c : FVec Ideal S512x128 .f32) (p n : Fin 512) :
    (laterW l c (ix2 p n) : EReal) = (if h : n.val < 128 then
      underW (sumsW 0 slices_S512x512_o0_0_S512x128 l)
        (overW (sumsW 128 slices_S512x512_o0_128_S512x128 l)
          (overW (sumsW 256 slices_S512x512_o0_256_S512x128 l) (overW (sumsW 384 slices_S512x512_o0_384_S512x128 l) c)))
        (ix2 p ⟨n.val, h⟩)
    else
      if h : n.val - 128 < 128 then
        underW (sumsW 128 slices_S512x512_o0_128_S512x128 l)
          (overW (sumsW 256 slices_S512x512_o0_256_S512x128 l) (overW (sumsW 384 slices_S512x512_o0_384_S512x128 l) c))
          (ix2 p ⟨n.val - 128, h⟩)
      else
        if h : n.val - 128 - 128 < 128 then
          underW (sumsW 256 slices_S512x512_o0_256_S512x128 l) (overW (sumsW 384 slices_S512x512_o0_384_S512x128 l) c)
            (ix2 p ⟨n.val - 128 - 128, h⟩)
        else underW (sumsW 384 slices_S512x512_o0_384_S512x128 l) c (ix2 p ⟨n.val - 128 - 128 - 128, by omega⟩) : EReal) := by
  pointwise [laterW]

section wide
variable (z : ℕ → ℝ) (t b : ℕ) (hb : b + 512 ≤ 2048) (l : FVec Ideal S512x512 .bf16) (c : FVec Ideal S512x128 .f32) (p : Fin 512)
  (hl : ∀ n : Fin 512, (l (ix2 p n) : EReal) = (left z t (b + n.val) : EReal)) (hc : ∀ d : Fin 128, (c (ix2 p d) : EReal) = (tail z t (b + 512) : EReal))
include hb hl hc

/-- What is carried past the last 128 keys of 512. -/
theorem past3 (d : Fin 128) : (overW (sumsW 384 slices_S512x512_o0_384_S512x128 l) c (ix2 p d) : EReal) = (tail z t (b + 384) : EReal) :=
  overW_at z t (b + 384) (b + 512) 384 _ (by omega) (by omega) (by omega) l c p (fun i => (hl _).trans (by rw [← Nat.add_assoc])) hc d

/-- What is carried past the last 256 keys of 512. -/
theorem past2 (d : Fin 128) : (overW (sumsW 256 slices_S512x512_o0_256_S512x128 l) (overW (sumsW 384 slices_S512x512_o0_384_S512x128 l) c) (ix2 p d) : EReal)
    = (tail z t (b + 256) : EReal) :=
  overW_at z t (b + 256) (b + 384) 256 _ (by omega) (by omega) (by omega) l _ p (fun i => (hl _).trans (by rw [← Nat.add_assoc])) (past3 z t b hb l c p hl hc) d

/-- What is carried past the last 384 keys of 512. -/
theorem past1 (d : Fin 128) : (overW (sumsW 128 slices_S512x512_o0_128_S512x128 l) (overW (sumsW 256 slices_S512x512_o0_256_S512x128 l)
    (overW (sumsW 384 slices_S512x512_o0_384_S512x128 l) c)) (ix2 p d) : EReal) = (tail z t (b + 128) : EReal) :=
  overW_at z t (b + 128) (b + 256) 128 _ (by omega) (by omega) (by omega) l _ p (fun i => (hl _).trans (by rw [← Nat.add_assoc])) (past2 z t b hb l c p hl hc) d

/-- What is carried past a tile of 512 keys is the tail from it on. -/
theorem pastW_at (d : Fin 128) : (pastW l c (ix2 p d) : EReal) = (tail z t b : EReal) :=
  overW_at z t b (b + 128) 0 _ (by omega) (by omega) (by omega) l _ p (fun i => (hl _).trans (by simp only [Nat.zero_add])) (past1 z t b hb l c p hl hc) d

/-- The sums over the later keys of a tile's 512 keys are the tails after them. -/
theorem laterW_at (n : Fin 512) : (laterW l c (ix2 p n) : EReal) = (tail z t (b + n.val + 1) : EReal) := by
  rw [laterW_eq]
  have hn := n.isLt
  split
  · exact underW_at z t b (b + 128) 0 _ (by omega) (by omega) (by omega) l _ p (fun i => (hl _).trans (by simp only [Nat.zero_add]))
      (past1 z t b hb l c p hl hc) _
  split
  · refine (underW_at z t (b + 128) (b + 256) 128 _ (by omega) (by omega) (by omega) l _ p (fun i => (hl _).trans (by rw [← Nat.add_assoc]))
      (past2 z t b hb l c p hl hc) _).trans ?_
    exact congrArg (fun m => (tail z t m : EReal)) (by show b + 128 + (n.val - 128) + 1 = _; omega)
  split
  · refine (underW_at z t (b + 256) (b + 384) 256 _ (by omega) (by omega) (by omega) l _ p (fun i => (hl _).trans (by rw [← Nat.add_assoc]))
      (past3 z t b hb l c p hl hc) _).trans ?_
    exact congrArg (fun m => (tail z t m : EReal)) (by show b + 256 + (n.val - 128 - 128) + 1 = _; omega)
  · refine (underW_at z t (b + 384) (b + 512) 384 _ (by omega) (by omega) (by omega) l _ p (fun i => (hl _).trans (by rw [← Nat.add_assoc]))
      hc _).trans ?_
    exact congrArg (fun m => (tail z t m : EReal)) (by show b + 384 + (n.val - 128 - 128 - 128) + 1 = _; omega)

end wide

theorem weightW_eq (z : FVec Ideal S512x512 .bf16) (c : FVec Ideal S512x128 .f32) (p n : Fin 512) :
    (weightW z c (ix2 p n) : EReal) = Ideal.exp ((takeW z (ix2 p n) : EReal) + laterW (leaveW z) c (ix2 p n)) := by
  pointwise [weightW]

/-- The weights of a tile of 512 keys before the query, and what is carried past it. -/
theorem weightW_at (zr : ℕ → ℝ) (t b : ℕ) (hb : b + 512 ≤ 2048) (ht : b + 512 ≤ t) (z : FVec Ideal S512x512 .bf16) (c : FVec Ideal S512x128 .f32)
    (p : Fin 512) (hz : ∀ n : Fin 512, (z (ix2 p n) : EReal) = (zr (b + n.val) : EReal)) (hc : ∀ d : Fin 128, (c (ix2 p d) : EReal) = (tail zr t (b + 512) : EReal))
    (n : Fin 512) : (weightW z c (ix2 p n) : EReal) = (weight zr t (b + n.val) : EReal) ∧
      ∀ d : Fin 128, (pastW (leaveW z) c (ix2 p d) : EReal) = (tail zr t b : EReal) := by
  have hl : ∀ n : Fin 512, (leaveW z (ix2 p n) : EReal) = (left zr t (b + n.val) : EReal) := fun n => by
    rw [leaveW_at z p n _ (hz n)]; unfold left; rw [if_pos (by omega)]
  refine ⟨?_, pastW_at zr t b hb _ c p hl hc⟩
  rw [weightW_eq, takeW_at z p n _ (hz n), laterW_at zr t b hb _ c p hl hc, exp_add_coe]
  unfold weight; rw [if_pos (by omega)]

theorem partW_at (w : FVec Ideal S512x512 .bf16) (v : FVec Ideal S512x128 .bf16) (p : Fin 512) (d : Fin 128) :
    (partW w v (ix2 p d) : EReal) = ∑ n : Fin 512, (w (ix2 p n) : EReal) * v (ix2 n d) := by
  pointwise [partW]

theorem flatS_at (x : Vec Ideal S1x256x128 .bf16) (p : Fin 256) (d : Fin 128) : (flatS x (ix2 p d) : EReal) = x (ix3 0 p d) := by
  pointwise [flatS]

theorem flatW_at (x : Vec Ideal S1x512x128 .bf16) (p : Fin 512) (d : Fin 128) : (flatW x (ix2 p d) : EReal) = x (ix3 0 p d) := by
  pointwise [flatW]

theorem zeroS_at (p : Fin 256) (d : Fin 128) : (zeroS (F := Ideal) (ix2 p d) : EReal) = 0 := by
  pointwise [zeroS]

/-- The result's block from the output and the gate. -/
theorem gated_at (g : Vec Ideal S1x512x128 .bf16) (a : FVec Ideal S512x128 .f32) (p : Fin 512) (d : Fin 128) :
    (gated g a (ix3 0 p d) : EReal) = a (ix2 p d) * ((g (ix3 0 p d) : EReal) * Ideal.div 1 (1 + Ideal.exp (0 - (g (ix3 0 p d) : EReal)))) := by
  pointwise [gated, flatW]

end Cert.Mix

end
-- ==== Proof.MixRows.lean ====
/- The attention's rows: what a block of queries has gathered and carries, after each tile of keys. -/
module

public import proofs.«01_k».proof.Proof.MixTileAt

@[expose] public section
set_option maxRecDepth 16384
noncomputable section
namespace Cert.Mix

open Cert.KernelIdeal Cert.KernelIdeal.Gen
open Idealize.ShloMosaic Idealize.ShloMosaic.TcCoe Idealize.ShloMosaic.Tactic

/-- The score of key `j` for query `t`. -/
def score (Q K : ℕ → Fin 128 → ℝ) (t j : ℕ) : ℝ := ∑ d : Fin 128, Q t d * K j d

/-- The score from rows of the extended reals. -/
theorem score_coe (Q K : ℕ → Fin 128 → ℝ) (t j : ℕ) : ((score Q K t j : ℝ) : EReal) = ∑ d : Fin 128, (Q t d : EReal) * (K j d : EReal) := by
  unfold score
  rw [coe_sum]
  exact Finset.sum_congr rfl fun d _ => EReal.coe_mul _ _

/-- A block of 256 rows, from row `b` on, holds the real rows of `X`. -/
def HoldsS (x : Vec Ideal S1x256x128 .bf16) (X : ℕ → Fin 128 → ℝ) (b : ℕ) : Prop :=
  ∀ (p : Fin 256) (d : Fin 128), (x (ix3 0 p d) : EReal) = (X (b + p.val) d : EReal)

/-- A block of 512 rows, from row `b` on, holds the real rows of `X`. -/
def HoldsW (x : Vec Ideal S1x512x128 .bf16) (X : ℕ → Fin 128 → ℝ) (b : ℕ) : Prop :=
  ∀ (p : Fin 512) (d : Fin 128), (x (ix3 0 p d) : EReal) = (X (b + p.val) d : EReal)

/-- A block of 256 rows, from row `b` on, holds the rows of `V`. -/
def KeepsS (x : Vec Ideal S1x256x128 .bf16) (V : ℕ → Fin 128 → EReal) (b : ℕ) : Prop :=
  ∀ (p : Fin 256) (d : Fin 128), (x (ix3 0 p d) : EReal) = V (b + p.val) d

/-- A block of 512 rows, from row `b` on, holds the rows of `V`. -/
def KeepsW (x : Vec Ideal S1x512x128 .bf16) (V : ℕ → Fin 128 → EReal) (b : ℕ) : Prop :=
  ∀ (p : Fin 512) (d : Fin 128), (x (ix3 0 p d) : EReal) = V (b + p.val) d

variable {Q K : ℕ → Fin 128 → ℝ} {V : ℕ → Fin 128 → EReal}

/-- The scores of a tile of 256 by 256. -/
theorem scoreS_of {q k : Vec Ideal S1x256x128 .bf16} {bq bk : ℕ} (hq : HoldsS q Q bq) (hk : HoldsS k K bk) (p n : Fin 256) :
    (scoreS (flatS q) (flatS k) (ix2 p n) : EReal) = (score Q K (bq + p.val) (bk + n.val) : EReal) := by
  rw [scoreS_at, score_coe]
  exact Finset.sum_congr rfl fun d _ => by rw [flatS_at, flatS_at, hq, hk]

/-- The scores of a tile of 512 by 512. -/
theorem scoreW_of {q k : Vec Ideal S1x512x128 .bf16} {bq bk : ℕ} (hq : HoldsW q Q bq) (hk : HoldsW k K bk) (p n : Fin 512) :
    (scoreW (flatW q) (flatW k) (ix2 p n) : EReal) = (score Q K (bq + p.val) (bk + n.val) : EReal) := by
  rw [scoreW_at, score_coe]
  exact Finset.sum_congr rfl fun d _ => by rw [flatW_at, flatW_at, hq, hk]

/-- What query `t` has gathered from key `b` on, in column `d`. -/
def got (Q K : ℕ → Fin 128 → ℝ) (V : ℕ → Fin 128 → EReal) (t b : ℕ) (d : Fin 128) : EReal := gathered (score Q K t) (fun s => V s d) t b

/-- What query `t` carries from key `b` on. -/
def rest (Q K : ℕ → Fin 128 → ℝ) (t b : ℕ) : EReal := (tail (score Q K t) t b : EReal)

theorem zero_rest (b : ℕ) (p : Fin 256) (d : Fin 128) :
    (zeroS (F := Ideal) (ix2 p d) : EReal) = (tail (score Q K (b + p.val)) (b + p.val) (b + 256) : EReal) := by
  rw [zeroS_at, tail_past _ _ _ (by omega)]; rfl

/-- The tile on the diagonal: what 256 queries carry. -/
theorem diagPast_at {q k : Vec Ideal S1x256x128 .bf16} {b : ℕ} (hb : b + 256 ≤ 2048) (hq : HoldsS q Q b) (hk : HoldsS k K b) (p : Fin 256) (d : Fin 128) :
    (diagPast q k (ix2 p d) : EReal) = rest Q K (b + p.val) b :=
  (weightM_at (score Q K (b + p.val)) b hb (scoreS (flatS q) (flatS k)) zeroS p (scoreS_of hq hk p) (zero_rest b p) p).2 d

/-- The tile on the diagonal: what 256 queries have gathered. -/
theorem diagAcc_at {q k v : Vec Ideal S1x256x128 .bf16} {b : ℕ} (hb : b + 256 ≤ 2048) (hq : HoldsS q Q b) (hk : HoldsS k K b) (hv : KeepsS v V b)
    (p : Fin 256) (d : Fin 128) : (diagAcc q k v (ix2 p d) : EReal) = got Q K V (b + p.val) b d := by
  have e : (diagAcc q k v (ix2 p d) : EReal) = zeroS (F := Ideal) (ix2 p d) + partS (weightM (scoreS (flatS q) (flatS k)) zeroS) (flatS v) (ix2 p d) := rfl
  unfold got
  rw [e, zeroS_at, partS_at, gathered_step _ _ _ b 256 hb, gathered_past _ _ _ _ (by omega)]
  refine congrArg₂ (· + ·) rfl (Finset.sum_congr rfl fun n _ => ?_)
  rw [(weightM_at (score Q K (b + p.val)) b hb (scoreS (flatS q) (flatS k)) zeroS p (scoreS_of hq hk p) (zero_rest b p) n).1, flatS_at, hv]

/-- The tile beside it: what the second 256 queries carry. -/
theorem nextPast_at {q k k' : Vec Ideal S1x256x128 .bf16} {b : ℕ} (hb : b + 512 ≤ 2048) (hq : HoldsS q Q (b + 256)) (hk : HoldsS k K (b + 256)) (hk' : HoldsS k' K b)
    (p : Fin 256) (d : Fin 128) : (nextPast q k k' (ix2 p d) : EReal) = rest Q K (b + 256 + p.val) b :=
  (weightS_at (score Q K (b + 256 + p.val)) (b + 256 + p.val) b (by omega) (by omega) (scoreS (flatS q) (flatS k')) (diagPast q k) p
    (scoreS_of hq hk' p) (diagPast_at (by omega) hq hk p) p).2 d

/-- The tile beside it: what the second 256 queries have gathered. -/
theorem nextAcc_at {q k v k' v' : Vec Ideal S1x256x128 .bf16} {b : ℕ} (hb : b + 512 ≤ 2048) (hq : HoldsS q Q (b + 256)) (hk : HoldsS k K (b + 256))
    (hv : KeepsS v V (b + 256)) (hk' : HoldsS k' K b) (hv' : KeepsS v' V b)
    (p : Fin 256) (d : Fin 128) : (nextAcc q k v k' v' (ix2 p d) : EReal) = got Q K V (b + 256 + p.val) b d := by
  have e : (nextAcc q k v k' v' (ix2 p d) : EReal) = diagAcc q k v (ix2 p d) + partS (weightS (scoreS (flatS q) (flatS k')) (diagPast q k)) (flatS v') (ix2 p d) := rfl
  rw [e, diagAcc_at (by omega) hq hk hv, partS_at]
  unfold got
  rw [gathered_step _ _ _ b 256 (by omega)]
  refine congrArg₂ (· + ·) rfl (Finset.sum_congr rfl fun n _ => ?_)
  rw [(weightS_at (score Q K (b + 256 + p.val)) (b + 256 + p.val) b (by omega) (by omega) (scoreS (flatS q) (flatS k')) (diagPast q k) p
    (scoreS_of hq hk' p) (diagPast_at (by omega) hq hk p) n).1, flatS_at, hv']

/-- Two blocks of 256 rows, one on the other. -/
theorem stacked (x y : FVec Ideal S256x128 .f32) (p : Fin 512) (d : Fin 128) :
    (concatenate S512x128 0 [⟨S256x128, x⟩, ⟨S256x128, y⟩] concatenates_S256x128_S256x128_S512x128_d0 (ix2 p d) : EReal)
      = if h : p.val < 256 then (x (ix2 ⟨p.val, h⟩ d) : EReal) else (y (ix2 ⟨p.val - 256, by omega⟩ d) : EReal) := by
  pointwise []

section square
variable {q k v q' k' v' : Vec Ideal S1x256x128 .bf16} {b : ℕ} (hb : b + 512 ≤ 2048) (hq : HoldsS q Q b) (hk : HoldsS k K b) (hv : KeepsS v V b)
  (hq' : HoldsS q' Q (b + 256)) (hk' : HoldsS k' K (b + 256)) (hv' : KeepsS v' V (b + 256))

include hb hq hk hq' hk' in
/-- What 512 queries carry past the square on the diagonal. -/
theorem squarePast_at (p : Fin 512) (d : Fin 128) : (squarePast q k q' k' (ix2 p d) : EReal) = rest Q K (b + p.val) b := by
  refine (stacked _ _ p d).trans ?_
  split
  · exact diagPast_at (by omega) hq hk _ d
  · refine (nextPast_at hb hq' hk' hk _ d).trans ?_
    exact congrArg (fun t => rest Q K t b) (by show b + 256 + (p.val - 256) = _; omega)

include hb hq hk hv hq' hk' hv' in
/-- What 512 queries have gathered from the square on the diagonal. -/
theorem squareAcc_at (p : Fin 512) (d : Fin 128) : (squareAcc q k v q' k' v' (ix2 p d) : EReal) = got Q K V (b + p.val) b d := by
  refine (stacked _ _ p d).trans ?_
  split
  · exact diagAcc_at (by omega) hq hk hv _ d
  · refine (nextAcc_at hb hq' hk' hv' hk hv _ d).trans ?_
    exact congrArg (fun t => got Q K V t b d) (by show b + 256 + (p.val - 256) = _; omega)

end square

section wide
variable {q k v : Vec Ideal S1x512x128 .bf16} {a c : FVec Ideal S512x128 .f32} {bq bk e : ℕ} (he : e = bk + 512) (hbq : e ≤ bq) (hb : bq + 512 ≤ 2048)
  (hq : HoldsW q Q bq) (hk : HoldsW k K bk) (hv : KeepsW v V bk)
  (ha : ∀ (p : Fin 512) (d : Fin 128), (a (ix2 p d) : EReal) = got Q K V (bq + p.val) e d)
  (hc : ∀ (p : Fin 512) (d : Fin 128), (c (ix2 p d) : EReal) = rest Q K (bq + p.val) e)

include he hbq hb hq hk hc in
/-- What 512 queries carry past one more tile of keys. -/
theorem widePast_at (p : Fin 512) (d : Fin 128) : (widePast q k c (ix2 p d) : EReal) = rest Q K (bq + p.val) bk := by
  subst he
  exact (weightW_at (score Q K (bq + p.val)) (bq + p.val) bk (by omega) (by omega) (scoreW (flatW q) (flatW k)) c p (scoreW_of hq hk p) (hc p) p).2 d

include he hbq hb hq hk hv ha hc in
/-- What 512 queries have gathered after one more tile of keys. -/
theorem wideAcc_at (p : Fin 512) (d : Fin 128) : (wideAcc q k v a c (ix2 p d) : EReal) = got Q K V (bq + p.val) bk d := by
  subst he
  have e : (wideAcc q k v a c (ix2 p d) : EReal) = a (ix2 p d) + partW (weightW (scoreW (flatW q) (flatW k)) c) (flatW v) (ix2 p d) := rfl
  rw [e, ha, partW_at]
  unfold got
  rw [gathered_step _ _ _ bk 512 (by omega)]
  refine congrArg₂ (· + ·) rfl (Finset.sum_congr rfl fun n _ => ?_)
  rw [(weightW_at (score Q K (bq + p.val)) (bq + p.val) bk (by omega) (by omega) (scoreW (flatW q) (flatW k)) c p (scoreW_of hq hk p) (hc p) n).1, flatW_at, hv]

end wide

end Cert.Mix

end
-- ==== Proof.MixOut.lean ====
/- The attention output's buffer after a grid point, read at a query and a column. -/
module

public import proofs.«01_k».proof.Proof.MixRows

@[expose] public section
set_option maxRecDepth 16384
noncomputable section
namespace Cert.Mix

open Cert.KernelIdeal Cert.KernelIdeal.Gen
open Idealize.ShloMosaic Idealize.ShloMosaic.TcCoe Idealize.ShloMosaic.Tactic

/-- The stores into the output's buffer, newest first. -/
abbrev Stored : Type := List (View.Piece (Elt Ideal) S1x2048x128 .bf16)

/-- A load of rows is the rows from its first on. -/
theorem ld_rows {o n : ℕ} (inb : ∀ a, (![0, o, 0] : Fin 3 → ℕ) a + ![1, n, 128] a ≤ S1x2048x128.size a) (X : S1x2048x128.Idx → Elt Ideal .bf16) (p : Fin n) (d : Fin 128) :
    View.ld X (Rect.unit (s := S1x2048x128) ![0, o, 0] ![1, n, 128] inb) (ix3 0 p d : (⟨3, ![1, n, 128]⟩ : Shape).Idx)
      = X (ix3 0 ⟨o + p.val, by have : o + n ≤ 2048 := inb 1; omega⟩ d) := by
  refine congrArg X (funext fun a => Fin.ext ?_)
  match a with
  | ⟨0, _⟩ => rfl
  | ⟨1, _⟩ => show o + 1 * p.val = o + p.val; omega
  | ⟨2, _⟩ => show 0 + 1 * d.val = d.val; omega

/-- Rows stored last are what their rows hold; the others hold what they held. -/
theorem stored_cons {o n : ℕ} (inb : ∀ a, (![0, o, 0] : Fin 3 → ℕ) a + ![1, n, 128] a ≤ S1x2048x128.size a)
    (w : (⟨3, ![1, n, 128]⟩ : Shape).Idx → EReal) (L : Stored) (r : Fin 2048) (d : Fin 128) :
    View.canon (Val := Elt Ideal) (s := S1x2048x128) (e := .bf16) (⟨Rect.unit (s := S1x2048x128) ![0, o, 0] ![1, n, 128] inb, w⟩ :: L) (ix3 0 r d)
      = if h : o ≤ r.val ∧ r.val < o + n then w (ix3 0 ⟨r.val - o, by omega⟩ d) else View.canon (Val := Elt Ideal) (s := S1x2048x128) (e := .bf16) L (ix3 0 r d) := by
  by_cases h : o ≤ r.val ∧ r.val < o + n
  · rw [dif_pos h]
    have e : (ix3 0 r d : S1x2048x128.Idx) = (Rect.unit (s := S1x2048x128) ![0, o, 0] ![1, n, 128] inb).emb (ix3 0 ⟨r.val - o, by omega⟩ d) := by
      funext a
      refine Fin.ext ?_
      match a with
      | ⟨0, _⟩ => rfl
      | ⟨1, _⟩ => show r.val = o + 1 * (r.val - o); omega
      | ⟨2, _⟩ => show d.val = 0 + 1 * d.val; omega
    rw [e]
    exact View.canon_cons_emb (Val := Elt Ideal) (e := .bf16) (Rect.unit (s := S1x2048x128) ![0, o, 0] ![1, n, 128] inb) w L _
  · rw [dif_neg h]
    refine View.canon_cons_of_not_mem _ L fun hm => h ?_
    obtain ⟨x, hx⟩ := (Rect.unit (s := S1x2048x128) ![0, o, 0] ![1, n, 128] inb).exists_idx_of_mem hm
    have h1 : r.val = o + 1 * (x 1).val := (congrArg (fun y : S1x2048x128.Idx => (y 1).val) hx).symm
    have h2 : (x 1).val < n := (x 1).isLt
    omega

variable (m : (ℓ : Loc nD τ sig) → Buf (Elt Ideal) ℓ)

/-- 256 rows of an input's buffer. -/
abbrev rowsS (X : S1x2048x128.Idx → EReal) (o : ℕ) (inb : ∀ a, (![0, o, 0] : Fin 3 → ℕ) a + ![1, 256, 128] a ≤ S1x2048x128.size a) : Vec Ideal S1x256x128 .bf16 :=
  View.ld (X : S1x2048x128.Idx → Elt Ideal .bf16) (Rect.unit (s := S1x2048x128) ![0, o, 0] ![1, 256, 128] inb)

/-- 512 rows of an input's buffer. -/
abbrev rowsW (X : S1x2048x128.Idx → EReal) (o : ℕ) (inb : ∀ a, (![0, o, 0] : Fin 3 → ℕ) a + ![1, 512, 128] a ≤ S1x2048x128.size a) : Vec Ideal S1x512x128 .bf16 :=
  View.ld (X : S1x2048x128.Idx → Elt Ideal .bf16) (Rect.unit (s := S1x2048x128) ![0, o, 0] ![1, 512, 128] inb)

/-- The block of the attention's queries at a point. -/
abbrev bq (c : Dev nD) (t : Fin cfg0.N) : S1x2048x128.Idx → EReal := iblk m c 20 t
/-- The block of its keys. -/
abbrev bk (c : Dev nD) (t : Fin cfg0.N) : S1x2048x128.Idx → EReal := iblk m c 21 t
/-- The block of its values. -/
abbrev bv (c : Dev nD) (t : Fin cfg0.N) : S1x2048x128.Idx → EReal := iblk m c 22 t
/-- The block of its gate. -/
abbrev bg (c : Dev nD) (t : Fin cfg0.N) : S1x2048x128.Idx → EReal := iblk m c 23 t

theorem inS {o : ℕ} (h : o + 256 ≤ 2048) : ∀ a, (![0, o, 0] : Fin 3 → ℕ) a + ![1, 256, 128] a ≤ S1x2048x128.size a
  | ⟨0, _⟩ => by show 0 + 1 ≤ 1; omega
  | ⟨1, _⟩ => h
  | ⟨2, _⟩ => by show 0 + 128 ≤ 128; omega

theorem inW {o : ℕ} (h : o + 512 ≤ 2048) : ∀ a, (![0, o, 0] : Fin 3 → ℕ) a + ![1, 512, 128] a ≤ S1x2048x128.size a
  | ⟨0, _⟩ => by show 0 + 1 ≤ 1; omega
  | ⟨1, _⟩ => h
  | ⟨2, _⟩ => by show 0 + 128 ≤ 128; omega

section block
variable (q k v : S1x2048x128.Idx → EReal) (o : ℕ) (h : o + 512 ≤ 2048)

/-- The square on the diagonal at rows `o` on: the output. -/
def sqA : FVec Ideal S512x128 .f32 :=
  squareAcc (rowsS q o (inS (by omega))) (rowsS k o (inS (by omega))) (rowsS v o (inS (by omega)))
    (rowsS q (o + 256) (inS (by omega))) (rowsS k (o + 256) (inS (by omega))) (rowsS v (o + 256) (inS (by omega)))

/-- The square on the diagonal at rows `o` on: what is carried. -/
def sqP : FVec Ideal S512x128 .f32 :=
  squarePast (rowsS q o (inS (by omega))) (rowsS k o (inS (by omega))) (rowsS q (o + 256) (inS (by omega))) (rowsS k (o + 256) (inS (by omega)))

end block

set_option maxHeartbeats 4000000 in
/-- The output buffer is four stores of 512 rows. -/
theorem out_stores (c : Dev nD) (t : Fin cfg0.N) (y : S1x2048x128.Idx) :
    let q := bq m c t; let k := bk m c t; let v := bv m c t; let g := bg m c t
    let Q (o : ℕ) (h : o + 512 ≤ 2048) := rowsW q o (inW h)
    let K (o : ℕ) (h : o + 512 ≤ 2048) := rowsW k o (inW h)
    let V (o : ℕ) (h : o + 512 ≤ 2048) := rowsW v o (inW h)
    let G (o : ℕ) (h : o + 512 ≤ 2048) := rowsW g o (inW h)
    out25 (F := Ideal) m c t y = View.canon (Val := Elt Ideal) (s := S1x2048x128) (e := .bf16)
      [⟨Rect.unit (s := S1x2048x128) ![0, 1536, 0] ![1, 512, 128] (inW (by omega)),
          gated (G 1536 (by omega)) (wideAcc (Q 1536 (by omega)) (K 0 (by omega)) (V 0 (by omega))
            (wideAcc (Q 1536 (by omega)) (K 512 (by omega)) (V 512 (by omega))
              (wideAcc (Q 1536 (by omega)) (K 1024 (by omega)) (V 1024 (by omega)) (sqA q k v 1536 (by omega)) (sqP q k 1536 (by omega)))
              (widePast (Q 1536 (by omega)) (K 1024 (by omega)) (sqP q k 1536 (by omega))))
            (widePast (Q 1536 (by omega)) (K 512 (by omega)) (widePast (Q 1536 (by omega)) (K 1024 (by omega)) (sqP q k 1536 (by omega)))))⟩,
       ⟨Rect.unit (s := S1x2048x128) ![0, 1024, 0] ![1, 512, 128] (inW (by omega)),
          gated (G 1024 (by omega)) (wideAcc (Q 1024 (by omega)) (K 0 (by omega)) (V 0 (by omega))
            (wideAcc (Q 1024 (by omega)) (K 512 (by omega)) (V 512 (by omega)) (sqA q k v 1024 (by omega)) (sqP q k 1024 (by omega)))
            (widePast (Q 1024 (by omega)) (K 512 (by omega)) (sqP q k 1024 (by omega))))⟩,
       ⟨Rect.unit (s := S1x2048x128) ![0, 512, 0] ![1, 512, 128] (inW (by omega)),
          gated (G 512 (by omega)) (wideAcc (Q 512 (by omega)) (K 0 (by omega)) (V 0 (by omega)) (sqA q k v 512 (by omega)) (sqP q k 512 (by omega)))⟩,
       ⟨Rect.unit (s := S1x2048x128) ![0, 0, 0] ![1, 512, 128] (inW (by omega)), gated (G 0 (by omega)) (sqA q k v 0 (by omega))⟩] y := by
  dsimp only
  unfold out25 runAt bodyRun
  frame_out
  rw [stored0, stored1, stored2, stored3]
  rfl

section value
variable {Q K : ℕ → Fin 128 → ℝ} {V : ℕ → Fin 128 → EReal} {q k v : S1x2048x128.Idx → EReal}
  (hq : ∀ (r : Fin 2048) (d : Fin 128), q (ix3 0 r d) = (Q r.val d : EReal))
  (hk : ∀ (r : Fin 2048) (d : Fin 128), k (ix3 0 r d) = (K r.val d : EReal))
  (hv : ∀ (r : Fin 2048) (d : Fin 128), v (ix3 0 r d) = V r.val d)

include hq in
theorem holdsS (o : ℕ) (inb) : HoldsS (rowsS q o inb) Q o := fun p d => (ld_rows inb q p d).trans (hq _ d)
include hq in
theorem holdsW (o : ℕ) (inb) : HoldsW (rowsW q o inb) Q o := fun p d => (ld_rows inb q p d).trans (hq _ d)
include hv in
theorem keepsS (o : ℕ) (inb) : KeepsS (rowsS v o inb) V o := fun p d => (ld_rows inb v p d).trans (hv _ d)
include hv in
theorem keepsW (o : ℕ) (inb) : KeepsW (rowsW v o inb) V o := fun p d => (ld_rows inb v p d).trans (hv _ d)

include hq hk in
theorem sqP_at (o : ℕ) (h : o + 512 ≤ 2048) (p : Fin 512) (d : Fin 128) : (sqP q k o h (ix2 p d) : EReal) = rest Q K (o + p.val) o :=
  squarePast_at h (holdsS hq o _) (holdsS hk o _) (holdsS hq _ _) (holdsS hk _ _) p d

include hq hk hv in
theorem sqA_at (o : ℕ) (h : o + 512 ≤ 2048) (p : Fin 512) (d : Fin 128) : (sqA q k v o h (ix2 p d) : EReal) = got Q K V (o + p.val) o d :=
  squareAcc_at h (holdsS hq o _) (holdsS hk o _) (keepsS hv o _) (holdsS hq _ _) (holdsS hk _ _) (keepsS hv _ _) p d

/-- The gate's factor. -/
def factor (x : EReal) : EReal := x * Ideal.div 1 (1 + Ideal.exp (0 - x))

/-- A block of 512 queries that have gathered from key 0 on, gated. -/
theorem block_at (g : S1x2048x128.Idx → EReal) (o : ℕ) (h : o + 512 ≤ 2048) (a : FVec Ideal S512x128 .f32)
    (ha : ∀ (p : Fin 512) (d : Fin 128), (a (ix2 p d) : EReal) = got Q K V (o + p.val) 0 d) (r : Fin 2048) (hr : o ≤ r.val ∧ r.val < o + 512) (d : Fin 128) :
    (gated (rowsW g o (inW h)) a (ix3 0 ⟨r.val - o, by omega⟩ d) : EReal) = got Q K V r.val 0 d * factor (g (ix3 0 r d)) := by
  have e : o + (r.val - o) = r.val := by omega
  have er : (⟨o + (r.val - o), by omega⟩ : Fin 2048) = r := Fin.ext e
  rw [gated_at, ha]
  rw [show rowsW g o (inW h) (ix3 0 ⟨r.val - o, by omega⟩ d) = g (ix3 0 r d) from (ld_rows (inW h) g ⟨r.val - o, by omega⟩ d).trans (by rw [er])]
  simp only [e]
  rfl

end value

/-- What a point leaves in the attention output's buffer: each query's gathered values, gated. -/
theorem out_at (c : Dev nD) (t : Fin cfg0.N) {Q K : ℕ → Fin 128 → ℝ} {V : ℕ → Fin 128 → EReal}
    (hq : ∀ (r : Fin 2048) (d : Fin 128), bq m c t (ix3 0 r d) = (Q r.val d : EReal))
    (hk : ∀ (r : Fin 2048) (d : Fin 128), bk m c t (ix3 0 r d) = (K r.val d : EReal))
    (hv : ∀ (r : Fin 2048) (d : Fin 128), bv m c t (ix3 0 r d) = V r.val d) (r : Fin 2048) (d : Fin 128) :
    (out25 (F := Ideal) m c t (ix3 0 r d) : EReal) = got Q K V r.val 0 d * factor (bg m c t (ix3 0 r d)) := by
  refine (out_stores m c t (ix3 0 r d)).trans ?_
  have hr := r.isLt
  rw [stored_cons]
  split
  · refine block_at _ 1536 (by omega) _ (fun p d => ?_) r (by assumption) d
    have P0 := sqP_at (Q := Q) (K := K) hq hk 1536 (by omega)
    have P1 := widePast_at (Q := Q) (K := K) (bq := 1536) (bk := 1024) rfl (by omega) (by omega) (holdsW hq _ (inW (by omega))) (holdsW hk _ (inW (by omega))) P0
    have P2 := widePast_at (Q := Q) (K := K) (bq := 1536) (bk := 512) rfl (by omega) (by omega) (holdsW hq _ (inW (by omega))) (holdsW hk _ (inW (by omega))) P1
    have A1 := wideAcc_at (bq := 1536) (bk := 1024) rfl (by omega) (by omega) (holdsW hq _ (inW (by omega))) (holdsW hk _ (inW (by omega))) (keepsW hv _ (inW (by omega)))
      (sqA_at hq hk hv 1536 (by omega)) P0
    have A2 := wideAcc_at (bq := 1536) (bk := 512) rfl (by omega) (by omega) (holdsW hq _ (inW (by omega))) (holdsW hk _ (inW (by omega))) (keepsW hv _ (inW (by omega))) A1 P1
    exact wideAcc_at (bq := 1536) (bk := 0) rfl (by omega) (by omega) (holdsW hq _ (inW (by omega))) (holdsW hk _ (inW (by omega))) (keepsW hv _ (inW (by omega))) A2 P2 p d
  rw [stored_cons]
  split
  · refine block_at _ 1024 (by omega) _ (fun p d => ?_) r (by assumption) d
    have P0 := sqP_at (Q := Q) (K := K) hq hk 1024 (by omega)
    have P1 := widePast_at (Q := Q) (K := K) (bq := 1024) (bk := 512) rfl (by omega) (by omega) (holdsW hq _ (inW (by omega))) (holdsW hk _ (inW (by omega))) P0
    have A1 := wideAcc_at (bq := 1024) (bk := 512) rfl (by omega) (by omega) (holdsW hq _ (inW (by omega))) (holdsW hk _ (inW (by omega))) (keepsW hv _ (inW (by omega)))
      (sqA_at hq hk hv 1024 (by omega)) P0
    exact wideAcc_at (bq := 1024) (bk := 0) rfl (by omega) (by omega) (holdsW hq _ (inW (by omega))) (holdsW hk _ (inW (by omega))) (keepsW hv _ (inW (by omega))) A1 P1 p d
  rw [stored_cons]
  split
  · refine block_at _ 512 (by omega) _ (fun p d => ?_) r (by assumption) d
    exact wideAcc_at (bq := 512) (bk := 0) rfl (by omega) (by omega) (holdsW hq _ (inW (by omega))) (holdsW hk _ (inW (by omega))) (keepsW hv _ (inW (by omega)))
      (sqA_at hq hk hv 512 (by omega)) (sqP_at hq hk 512 (by omega)) p d
  rw [stored_cons]
  split
  · exact block_at _ 0 (by omega) _ (fun p d => sqA_at hq hk hv 0 (by omega) p d) r (by assumption) d
  · omega

end Cert.Mix

end
-- ==== Proof.MixRef.lean ====
/- A running sum from the end, written as a window over a row. -/
module

public import proofs.«01_k».proof.Proof.Gen.ReferenceIdeal.Read
public import proofs.«01_k».proof.Proof.MixRow
public import Idealize.ShloMosaic.Lib.WordCmp

@[expose] public section
set_option maxRecDepth 16384
noncomputable section
namespace Cert.Mix.Ref

open Cert.ReferenceIdeal Cert.ReferenceIdeal.Gen Cert.ReferenceIdeal.Read Cert.Mix
open Idealize.ShloMosaic Idealize.ShloMosaic.TcCoe Idealize.ShloMosaic.Tactic

/-- A left fold of addition is the sum. -/
theorem fold_sum {ι : Type} (L : List ι) (g : ι → EReal) (a : EReal) : L.foldl (fun r n => r + g n) a = a + (L.map g).sum := by
  induction L generalizing a with
  | nil => simp
  | cons x L ih => rw [List.foldl_cons, ih, List.map_cons, List.sum_cons, add_assoc]

/-- The window's positions. -/
abbrev W (N : ℕ) : Shape := ⟨4, ![1, 1, 1, N]⟩

theorem W_numel (N : ℕ) : (W N).numel = N := by simp [Shape.numel, Fin.prod_univ_four]

theorem W_symm (N : ℕ) (n : Fin (W N).numel) : (W N).rowMajor.symm n = ix4 (0 : Fin 1) (0 : Fin 1) (0 : Fin 1) (n.cast (W_numel N)) :=
  ((W N).rowMajor.symm_apply_eq).2 (Fin.ext (by rw [Shape.rowMajor_val_four]; show n.val = ((0 * 1 + 0) * 1 + 0) * N + n.val; simp))

/-- The sum of a row from an index on, written as a window of the whole length, padded after the row. -/
theorem window_sum {A B T N p : ℕ} {u : Shape} (x : FVec Ideal ⟨4, ![A, B, T, N]⟩ .f32) (init : FVec Ideal u .f32) (h0 : ∀ i, init i = (0 : EReal))
    (hw : Shape.ReduceWindows (s := ⟨4, ![A, B, T, N]⟩) ![1, 1, 1, N] ![1, 1, 1, 1] ![0, 0, 0, 0] ![0, 0, 0, p] ⟨4, ![A, B, T, N]⟩) (hu : 0 < u.numel)
    (b : Fin A) (h : Fin B) (t : Fin T) (s : Fin N) :
    (Host.reduceWindowAdd ![1, 1, 1, N] ![1, 1, 1, 1] ![0, 0, 0, 0] ![0, 0, 0, p] x init hw hu (ix4 b h t s) : EReal)
      = ∑ n : Fin N, if hn : s.val + n.val < N then (x (ix4 b h t ⟨s.val + n.val, hn⟩) : EReal) else 0 := by
  unfold Host.reduceWindowAdd
  rw [Ideal.hostReduceWindowAdd_def]
  unfold Ideal.hostReduceWindowAdd Host.reduceWindow
  dsimp only
  rw [h0]
  refine (fold_sum _ _ _).trans ?_
  rw [zero_add, ← Fin.sum_univ_def]
  refine Fintype.sum_equiv (finCongr (W_numel N)) _ _ fun n => ?_
  have e (a : Fin 4) : ((W N).rowMajor.symm n a).val = (ix4 (0 : Fin 1) (0 : Fin 1) (0 : Fin 1) (n.cast (W_numel N)) a).val :=
    congrArg (fun i : (W N).Idx => (i a).val) (W_symm N n)
  have e0 : ((W N).rowMajor.symm n 0).val = 0 := e 0
  have e1 : ((W N).rowMajor.symm n 1).val = 0 := e 1
  have e2 : ((W N).rowMajor.symm n 2).val = 0 := e 2
  have e3 : ((W N).rowMajor.symm n 3).val = n.val := e 3
  have hb := b.isLt
  have hh := h.isLt
  have ht := t.isLt
  by_cases h1 : s.val + n.val < N
  · rw [dif_pos (show s.val + ((finCongr (W_numel N)) n).val < N from h1)]
    refine (dif_pos ?_).trans (congrArg x (funext fun a => Fin.ext ?_))
    · intro a
      match a with
      | ⟨0, _⟩ => exact ⟨Nat.zero_le _, by show b.val * 1 + ((W N).rowMajor.symm n 0).val - 0 < A; omega⟩
      | ⟨1, _⟩ => exact ⟨Nat.zero_le _, by show h.val * 1 + ((W N).rowMajor.symm n 1).val - 0 < B; omega⟩
      | ⟨2, _⟩ => exact ⟨Nat.zero_le _, by show t.val * 1 + ((W N).rowMajor.symm n 2).val - 0 < T; omega⟩
      | ⟨3, _⟩ => exact ⟨Nat.zero_le _, by show s.val * 1 + ((W N).rowMajor.symm n 3).val - 0 < N; omega⟩
    · match a with
      | ⟨0, _⟩ => show b.val * 1 + ((W N).rowMajor.symm n 0).val - 0 = b.val; omega
      | ⟨1, _⟩ => show h.val * 1 + ((W N).rowMajor.symm n 1).val - 0 = h.val; omega
      | ⟨2, _⟩ => show t.val * 1 + ((W N).rowMajor.symm n 2).val - 0 = t.val; omega
      | ⟨3, _⟩ => show s.val * 1 + ((W N).rowMajor.symm n 3).val - 0 = s.val + n.val; omega
  · rw [dif_neg (show ¬ s.val + ((finCongr (W_numel N)) n).val < N from h1)]
    refine dif_neg fun hin => h1 ?_
    have h2 : s.val * 1 + ((W N).rowMajor.symm n 3).val - 0 < N := (hin 3).2
    omega

end Cert.Mix.Ref
-- ==== Proof.MixRefAt.lean ====
/- The reference's attention, read at an index. -/
module

public import proofs.«01_k».proof.Proof.Gen.ReferenceIdeal.Read
public import proofs.«01_k».proof.Proof.MixRef
public import Idealize.ShloMosaic.Lib.WordCmp

@[expose] public section
set_option maxRecDepth 16384
noncomputable section
namespace Cert.Mix.Ref

open Cert.ReferenceIdeal Cert.ReferenceIdeal.Gen Cert.ReferenceIdeal.Read Cert.Mix
open Idealize.ShloMosaic Idealize.ShloMosaic.TcCoe Idealize.ShloMosaic.Tactic

variable (X : FVec Ideal S8x2048x8192 .bf16)

theorem v6_at (b : Fin 8) (h : Fin 16) (t : Fin 2048) (d : Fin 128) :
    (val_main_v6 (F := Ideal) X (ix4 b h t d) : EReal) = X (ix3 b t ⟨h.val * 128 + d.val, by omega⟩) := by
  pointwise [val_main_v6, val_main_v5, val_main_v1, val_main_v0]

theorem v8_at (b : Fin 8) (h : Fin 16) (t : Fin 2048) (d : Fin 128) :
    (val_main_v8 (F := Ideal) X (ix4 b h t d) : EReal) = X (ix3 b t ⟨2048 + (h.val * 128 + d.val), by omega⟩) := by
  pointwise [val_main_v8, val_main_v7, val_main_v2, val_main_v0]

theorem v10_at (b : Fin 8) (h : Fin 16) (t : Fin 2048) (d : Fin 128) :
    (val_main_v10 (F := Ideal) X (ix4 b h t d) : EReal) = X (ix3 b t ⟨4096 + (h.val * 128 + d.val), by omega⟩) := by
  pointwise [val_main_v10, val_main_v9, val_main_v3, val_main_v0]

theorem v11_at (b : Fin 8) (h : Fin 16) (t s : Fin 2048) :
    (val_main_v11 (F := Ideal) X (ix4 b h t s) : EReal)
      = ∑ d : Fin 128, (val_main_v6 (F := Ideal) X (ix4 b h t d) : EReal) * val_main_v8 (F := Ideal) X (ix4 b h s d) := by
  unfold val_main_v11
  generalize val_main_v6 (F := Ideal) X = x
  generalize val_main_v8 (F := Ideal) X = y
  pointwise

/-- The softplus, as the reference computes it. -/
theorem soft_at (y : Ideal .f32) :
    Scalar.select (FloatOps.cmpf CmpFPredicate.une (FloatOps.subf y (FloatOps.ofBits .f32 0#32)) (FloatOps.subf y (FloatOps.ofBits .f32 0#32)))
      (FloatOps.addf y (FloatOps.ofBits .f32 0#32))
      (FloatOps.addf (FloatOps.maximumf y (FloatOps.ofBits .f32 0#32)) (FloatOps.hostUnary .log1p (FloatOps.hostUnary .exp
        (FloatOps.hostNegf (FloatOps.hostAbsf (FloatOps.subf y (FloatOps.ofBits .f32 0#32)))))))
      = (max (y : EReal) 0 + Ideal.log1p (Ideal.exp (-max (y : EReal) (-(y : EReal)))) : EReal) := by
  have h0 : (FloatOps.ofBits .f32 0#32 : Ideal .f32) = (0 : EReal) := Ideal.ofBits_zero_f32
  have h1 : (FloatOps.subf y (FloatOps.ofBits .f32 0#32) : Ideal .f32) = y := by
    rw [h0]; exact sub_zero (y : EReal)
  have h2 : FloatOps.cmpf CmpFPredicate.une y y = 0#1 := by simp [Ideal.cmpf_def, Ideal.cmp]
  rw [h1, h2, h0]
  rfl

theorem v20_at (i : S8x16x2048x2048.Idx) (x : ℝ) (hx : (val_main_v11 (F := Ideal) X i : EReal) = x) : (val_main_v20 (F := Ideal) X i : EReal) = leave x := by
  rw [← take_neg, ← soft_take, EReal.coe_neg, ← hx]
  rw [val_main_v20_apply, val_main_call0_v1_apply, val_main_call0_call0_v4_apply, val_main_call0_call0_v11_apply, val_main_call0_call0_v1_apply, val_main_call0_call0_v10_apply,
    val_main_call0_call0_v9_apply, val_main_call0_call0_v8_apply, val_main_call0_call0_v7_apply, val_main_call0_call0_v6_apply, val_main_call0_call0_v3_apply, val_main_call0_v0_apply, val_main_v19_apply,
    val_main_call0_call0_v0_apply, val_main_call0_call0_v2_apply, val_main_call0_call0_v5_apply, val_main_call0_call0_cst_apply]
  exact congrArg (fun x : EReal => -x) (soft_at _)

theorem v24_at (i : S8x16x2048x2048.Idx) (x : ℝ) (hx : (val_main_v11 (F := Ideal) X i : EReal) = x) : (val_main_v24 (F := Ideal) X i : EReal) = take x := by
  rw [← soft_take, ← hx]
  rw [val_main_v24_apply, val_main_call3_v1_apply, val_main_call3_call0_v4_apply, val_main_call3_call0_v11_apply, val_main_call3_call0_v1_apply, val_main_call3_call0_v10_apply,
    val_main_call3_call0_v9_apply, val_main_call3_call0_v8_apply, val_main_call3_call0_v7_apply, val_main_call3_call0_v6_apply, val_main_call3_call0_v3_apply, val_main_call3_v0_apply,
    val_main_call3_call0_v0_apply, val_main_call3_call0_v2_apply, val_main_call3_call0_v5_apply, val_main_call3_call0_cst_apply]
  exact congrArg (fun x : EReal => -x) (soft_at _)

/-- The mask: the key is before the query. -/
theorem v18_at (t s : Fin 2048) (x y : EReal) : Scalar.select (val_main_v18 (F := Ideal) (ix2 t s)) x y = if s.val < t.val then x else y := by
  rw [val_main_v18_apply, val_main_v16_apply, val_main_v17_apply, val_main_v13_apply, val_main_v15_apply, val_main_v12_apply, val_main_v14_apply]
  show Scalar.select (IntOp.cmpi .slt (BitVec.ofNat 32 s.val) (BitVec.ofNat 32 t.val)) x y = _
  rw [WordCmp.cmpi_slt_ofNat (by norm_num; omega) (by norm_num; omega)]
  unfold Scalar.select
  by_cases h : s.val < t.val <;> simp [h]

theorem v21_eq (b : Fin 8) (h : Fin 16) (t s : Fin 2048) :
    (val_main_v21 (F := Ideal) X (ix4 b h t s) : EReal) = Scalar.select (val_main_v18 (F := Ideal) (ix2 t s)) (val_main_v20 (F := Ideal) X (ix4 b h t s) : EReal) 0 := by
  unfold val_main_v21 val_main_call1_v1
  generalize val_main_v20 (F := Ideal) X = x
  generalize val_main_v18 (F := Ideal) = y
  pointwise [val_main_call1_v2, val_main_call1_v0, val_main_cst]
  exact congrArg (Scalar.select _ _) Ideal.ofBits_zero_f32

theorem v27_eq (b : Fin 8) (h : Fin 16) (t s : Fin 2048) :
    (val_main_v27 (F := Ideal) X (ix4 b h t s) : EReal) = Scalar.select (val_main_v18 (F := Ideal) (ix2 t s))
      (Ideal.exp ((val_main_v24 (F := Ideal) X (ix4 b h t s) : EReal) + ((val_main_v22 (F := Ideal) X (ix4 b h t s) : EReal) - val_main_v21 (F := Ideal) X (ix4 b h t s)))) 0 := by
  unfold val_main_v27 val_main_call4_v1 val_main_v26 val_main_v25 val_main_v23
  generalize val_main_v24 (F := Ideal) X = x
  generalize val_main_v22 (F := Ideal) X = z
  generalize val_main_v21 (F := Ideal) X = w
  generalize val_main_v18 (F := Ideal) = y
  pointwise [val_main_call4_v2, val_main_call4_v0, val_main_cst_0]
  exact congrArg (Scalar.select _ _) Ideal.ofBits_zero_f32

section Row
variable (b : Fin 8) (h : Fin 16) (t : Fin 2048) (z : ℕ → ℝ) (hz : ∀ s : Fin 2048, (val_main_v11 (F := Ideal) X (ix4 b h t s) : EReal) = (z s.val : EReal))
include hz

theorem v21_at (s : Fin 2048) : (val_main_v21 (F := Ideal) X (ix4 b h t s) : EReal) = (left z t.val s.val : EReal) := by
  rw [v21_eq, v18_at, v20_at X _ _ (hz s), left]
  split <;> rfl

/-- The running sum from a key on. -/
theorem v22_at (s : Fin 2048) : (val_main_v22 (F := Ideal) X (ix4 b h t s) : EReal) = (tail z t.val s.val : EReal) := by
  refine (window_sum (val_main_v21 (F := Ideal) X) (val_main_call2_v0 (F := Ideal)) (fun i => (val_main_call2_v0_apply i).trans Ideal.ofBits_zero_f32) _ _ b h t s).trans ?_
  have e (n : Fin 2048) : (if hn : s.val + n.val < 2048 then (val_main_v21 (F := Ideal) X (ix4 b h t ⟨s.val + n.val, hn⟩) : EReal) else 0)
      = if s.val + n.val < 2048 then (left z t.val (s.val + n.val) : EReal) else 0 := by
    split
    · exact v21_at X b h t z hz _
    · rfl
  rw [Finset.sum_congr rfl fun n _ => e n, Fin.sum_univ_eq_sum_range (fun n => if s.val + n < 2048 then (left z t.val (s.val + n) : EReal) else 0) 2048,
    tail, Finset.sum_Ico_eq_sum_range, coe_sum]
  refine Eq.trans (Finset.sum_subset (Finset.range_mono (Nat.sub_le 2048 s.val)) fun n _ hn => if_neg ?_).symm (Finset.sum_congr rfl fun n hn => if_pos ?_)
  · rw [Finset.mem_range] at hn; omega
  · rw [Finset.mem_range] at hn; omega

theorem v27_at (s : Fin 2048) : (val_main_v27 (F := Ideal) X (ix4 b h t s) : EReal) = (weight z t.val s.val : EReal) := by
  rw [v27_eq, v18_at, v24_at X _ _ (hz s), v22_at X b h t z hz s, v21_at X b h t z hz s, ← EReal.coe_sub, tail_succ z t.val s.val s.isLt, ← EReal.coe_add, Ideal.exp_coe, weight]
  split <;> rfl

end Row

theorem v28_at (b : Fin 8) (h : Fin 16) (t : Fin 2048) (d : Fin 128) :
    (val_main_v28 (F := Ideal) X (ix4 b h t d) : EReal)
      = ∑ s : Fin 2048, (val_main_v27 (F := Ideal) X (ix4 b h t s) : EReal) * val_main_v10 (F := Ideal) X (ix4 b h s d) := by
  unfold val_main_v28
  generalize val_main_v27 (F := Ideal) X = x
  generalize val_main_v10 (F := Ideal) X = y
  pointwise

/-- What a head gathers for a query. -/
theorem v28_gathered (b : Fin 8) (h : Fin 16) (t : Fin 2048) (d : Fin 128) (z : ℕ → ℝ) (v : ℕ → EReal)
    (hz : ∀ s : Fin 2048, (val_main_v11 (F := Ideal) X (ix4 b h t s) : EReal) = (z s.val : EReal))
    (hv : ∀ s : Fin 2048, (val_main_v10 (F := Ideal) X (ix4 b h s d) : EReal) = v s.val) :
    (val_main_v28 (F := Ideal) X (ix4 b h t d) : EReal) = gathered z v t.val 0 := by
  rw [v28_at, gathered, ← Finset.range_eq_Ico, ← Fin.sum_univ_eq_sum_range (fun s => (weight z t.val s : EReal) * v s) 2048]
  exact Finset.sum_congr rfl fun s _ => by rw [v27_at X b h t z hz s, hv s]

/-- The gate. -/
theorem v31_at (i : S8x2048x2048.Idx) : (val_main_v31 (F := Ideal) X i : EReal)
    = (val_main_v4 (F := Ideal) X i : EReal) * Ideal.div 1 (1 + Ideal.exp (-(val_main_v4 (F := Ideal) X i : EReal))) := by
  rw [val_main_v31_apply, val_main_call5_v5_apply, val_main_call5_v3_apply, val_main_call5_v1_apply, val_main_call5_v0_apply, val_main_call5_v4_apply, val_main_call5_v2_apply,
    val_main_call5_cst_apply, val_main_call5_cst_0_apply, show (FloatOps.ofBits .f32 0x3F800000#32 : Ideal .f32) = (1 : EReal) from Ideal.ofBits_one_f32]
  rfl

theorem v4_at (b : Fin 8) (r n : Fin 2048) : (val_main_v4 (F := Ideal) X (ix3 b r n) : EReal) = X (ix3 b r ⟨6144 + n.val, by omega⟩) := by
  pointwise [val_main_v4, val_main_v0]

/-- The reference's result, at a head's column. -/
theorem v33_at (b : Fin 8) (r : Fin 2048) (h : Fin 16) (d : Fin 128) :
    (val_main_v33 (F := Ideal) X (ix3 b r ⟨h.val * 128 + d.val, by omega⟩) : EReal)
      = (val_main_v28 (F := Ideal) X (ix4 b h r d) : EReal) * val_main_v31 (F := Ideal) X (ix3 b r ⟨h.val * 128 + d.val, by omega⟩) := by
  rw [val_main_v33_apply, val_main_v32_apply, val_main_v30_apply, val_main_v29_apply]
  have e : idx_main_v29 (idx_main_v30 (ix3 b r ⟨h.val * 128 + d.val, by omega⟩)) = ix4 b h r d := funext fun a => Fin.ext (by
    match a with
    | ⟨0, _⟩ => show ((b.val * 2048 + r.val) * 2048 + (h.val * 128 + d.val)) / 4194304 = b.val; omega
    | ⟨1, _⟩ => show ((b.val * 2048 + r.val) * 2048 + (h.val * 128 + d.val)) / 128 % 16 = h.val; omega
    | ⟨2, _⟩ => show ((b.val * 2048 + r.val) * 2048 + (h.val * 128 + d.val)) / 2048 % 2048 = r.val; omega
    | ⟨3, _⟩ => show ((b.val * 2048 + r.val) * 2048 + (h.val * 128 + d.val)) % 128 = d.val; omega)
  rw [e]
  rfl

end Cert.Mix.Ref
-- ==== Proof.MixValue.lean ====
/- The attention's result array is the reference's, where the queries' and the keys' entries are finite. -/
module

public import proofs.«01_k».proof.Proof.MixOut
public import proofs.«01_k».proof.Proof.MixRefAt
public import proofs.«01_k».proof.Proof.Gen.Pre_finite_qk
public import proofs.«01_k».proof.Defs
public import Idealize.ShloMosaic.Lib.ReduceAll

@[expose] public section

set_option maxRecDepth 16384

noncomputable section

namespace Cert.Mix

open Cert.KernelIdeal Cert.KernelIdeal.Gen Idealize.ShloMosaic Idealize.ShloMosaic.TcCoe Idealize.SL.Sem
open Idealize.ShloMosaic.Pipeline (Dat)

attribute [local irreducible] out25

variable (m : (ℓ : Loc nD τ sig) → Buf (Elt Ideal) ℓ) (c : Dev nD)

/-- The projected columns of the attention group. -/
abbrev aP : FVec Ideal S8x2048x8192 .bf16 := m ((c : Thread nD τ).loc main_arg1)

/-- The head's columns of the queries, the keys, the values, the gate and the result, at a grid point. -/
theorem idx : ∀ t : Fin cfg0.N,
    win0_20.index t = ![t.val / 16, 0, t.val % 16] ∧ win0_21.index t = ![t.val / 16, 0, 16 + t.val % 16] ∧ win0_22.index t = ![t.val / 16, 0, 32 + t.val % 16]
    ∧ win0_23.index t = ![t.val / 16, 0, 48 + t.val % 16] ∧ win0_25.index t = ![t.val / 16, 0, t.val % 16] :=
  (by decide +kernel : ∀ t : Fin grid0.N,
    win0_20.index t = ![t.val / 16, 0, t.val % 16] ∧ win0_21.index t = ![t.val / 16, 0, 16 + t.val % 16] ∧ win0_22.index t = ![t.val / 16, 0, 32 + t.val % 16]
    ∧ win0_23.index t = ![t.val / 16, 0, 48 + t.val % 16] ∧ win0_25.index t = ![t.val / 16, 0, t.val % 16])

theorem lt128 (t : Fin cfg0.N) : t.val < 128 := lt_of_lt_of_eq t.isLt N_0

/-- The sequence of a grid point. -/
def sq (t : Fin cfg0.N) : Fin 8 := ⟨t.val / 16, by have := lt128 t; omega⟩

/-- The head of a grid point. -/
def hd (t : Fin cfg0.N) : Fin 16 := ⟨t.val % 16, by omega⟩

theorem blkQ (t : Fin cfg0.N) (r : Fin 2048) (d : Fin 128) : bq m c t (ix3 0 r d) = aP m c (ix3 (sq t) r ⟨(hd t).val * 128 + d.val, by omega⟩) := by
  refine (congrFun (V_main_arg1 m c) _).trans (congrArg (aP m c) (funext fun a => Fin.ext ?_))
  match a with
  | ⟨0, _⟩ => show win0_20.index t 0 * 1 + 1 * 0 = t.val / 16; rw [(idx t).1]; simp
  | ⟨1, _⟩ => show win0_20.index t 1 * 2048 + 1 * r.val = r.val; rw [(idx t).1]; simp
  | ⟨2, _⟩ => show win0_20.index t 2 * 128 + 1 * d.val = t.val % 16 * 128 + d.val; rw [(idx t).1]; simp

theorem blkK (t : Fin cfg0.N) (r : Fin 2048) (d : Fin 128) : bk m c t (ix3 0 r d) = aP m c (ix3 (sq t) r ⟨2048 + ((hd t).val * 128 + d.val), by omega⟩) := by
  refine (congrFun (V_main_arg1 m c) _).trans (congrArg (aP m c) (funext fun a => Fin.ext ?_))
  match a with
  | ⟨0, _⟩ => show win0_21.index t 0 * 1 + 1 * 0 = t.val / 16; rw [(idx t).2.1]; simp
  | ⟨1, _⟩ => show win0_21.index t 1 * 2048 + 1 * r.val = r.val; rw [(idx t).2.1]; simp
  | ⟨2, _⟩ => show win0_21.index t 2 * 128 + 1 * d.val = 2048 + (t.val % 16 * 128 + d.val); rw [(idx t).2.1]; show (16 + t.val % 16) * 128 + 1 * d.val = _; omega

theorem blkV (t : Fin cfg0.N) (r : Fin 2048) (d : Fin 128) : bv m c t (ix3 0 r d) = aP m c (ix3 (sq t) r ⟨4096 + ((hd t).val * 128 + d.val), by omega⟩) := by
  refine (congrFun (V_main_arg1 m c) _).trans (congrArg (aP m c) (funext fun a => Fin.ext ?_))
  match a with
  | ⟨0, _⟩ => show win0_22.index t 0 * 1 + 1 * 0 = t.val / 16; rw [(idx t).2.2.1]; simp
  | ⟨1, _⟩ => show win0_22.index t 1 * 2048 + 1 * r.val = r.val; rw [(idx t).2.2.1]; simp
  | ⟨2, _⟩ => show win0_22.index t 2 * 128 + 1 * d.val = 4096 + (t.val % 16 * 128 + d.val); rw [(idx t).2.2.1]; show (32 + t.val % 16) * 128 + 1 * d.val = _; omega

theorem blkG (t : Fin cfg0.N) (r : Fin 2048) (d : Fin 128) : bg m c t (ix3 0 r d) = aP m c (ix3 (sq t) r ⟨6144 + ((hd t).val * 128 + d.val), by omega⟩) := by
  refine (congrFun (V_main_arg1 m c) _).trans (congrArg (aP m c) (funext fun a => Fin.ext ?_))
  match a with
  | ⟨0, _⟩ => show win0_23.index t 0 * 1 + 1 * 0 = t.val / 16; rw [(idx t).2.2.2.1]; simp
  | ⟨1, _⟩ => show win0_23.index t 1 * 2048 + 1 * r.val = r.val; rw [(idx t).2.2.2.1]; simp
  | ⟨2, _⟩ => show win0_23.index t 2 * 128 + 1 * d.val = 6144 + (t.val % 16 * 128 + d.val); rw [(idx t).2.2.2.1]; show (48 + t.val % 16) * 128 + 1 * d.val = _; omega

/-- Under the precondition the entries of the queries and the keys are real. -/
theorem finite (hp : Cert.Pre_KernelIdeal_finite_qk m) (b : Fin 8) (r : Fin 2048) (n : Fin 4096) :
    ((((aP m c (ix3 b r ⟨n.val, by omega⟩) : EReal)).toReal : ℝ) : EReal) = aP m c (ix3 b r ⟨n.val, by omega⟩) := by
  have h1 := congrFun (hp c) ix0
  unfold Cert.Pre_finite_qk.fn at h1
  dsimp only at h1
  have : Subsingleton Cert.Pre_finite_qk.S_.Idx := ⟨fun a b => funext fun i => i.elim0⟩
  have h2 := Host.reduce_andi_all _ _ _ _ _ h1 (ix3 b r n)
  have h3 : FloatOps.cmpf (F := Ideal) (φ := .f32) CmpFPredicate.olt (FloatOps.hostAbsf (aP m c (ix3 b r ⟨n.val, by omega⟩) : Ideal .f32)) (FloatOps.ofBits .f32 0x7F800000#32) = 1#1 := by
    refine Eq.trans ?_ h2
    pointwise
  have h4 : max (aP m c (ix3 b r ⟨n.val, by omega⟩) : EReal) (-(aP m c (ix3 b r ⟨n.val, by omega⟩) : EReal)) < ⊤ := by
    have h5 : (FloatOps.ofBits .f32 0x7F800000#32 : Ideal .f32) = (⊤ : EReal) := by
      show Ideal.ofBits .f32 0x7F800000#32 = ⊤
      simp [Ideal.ofBits, Ideal.ieee]
    rw [h5] at h3
    have h6 : BitVec.ofBool (decide (max (aP m c (ix3 b r ⟨n.val, by omega⟩) : EReal) (-(aP m c (ix3 b r ⟨n.val, by omega⟩) : EReal)) < ⊤)) = 1#1 := h3
    by_contra hn
    rw [decide_eq_false hn] at h6
    exact absurd h6 (by decide)
  refine EReal.coe_toReal (fun e => ?_) (fun e => ?_)
  · rw [e] at h4; simp at h4
  · rw [e] at h4; simp at h4

/-- A row of the queries, or of the keys, of a head. -/
def row (t : Fin cfg0.N) (o : ℕ) (ho : o + 2048 ≤ 4096) (r : ℕ) (d : Fin 128) : ℝ :=
  if h : r < 2048 then (aP m c (ix3 (sq t) ⟨r, h⟩ ⟨o + ((hd t).val * 128 + d.val), by omega⟩) : EReal).toReal else 0

/-- A row of the values of a head. -/
def rowV (t : Fin cfg0.N) (r : ℕ) (d : Fin 128) : EReal :=
  if h : r < 2048 then aP m c (ix3 (sq t) ⟨r, h⟩ ⟨4096 + ((hd t).val * 128 + d.val), by omega⟩) else 0

theorem row_coe (hp : Cert.Pre_KernelIdeal_finite_qk m) (t : Fin cfg0.N) (o : ℕ) (ho : o + 2048 ≤ 4096) (r : Fin 2048) (d : Fin 128) :
    (aP m c (ix3 (sq t) r ⟨o + ((hd t).val * 128 + d.val), by omega⟩) : EReal) = (row m c t o ho r.val d : EReal) := by
  unfold row
  rw [dif_pos r.isLt]
  exact (finite m c hp (sq t) r ⟨o + ((hd t).val * 128 + d.val), by omega⟩).symm

theorem rowV_at (t : Fin cfg0.N) (r : Fin 2048) (d : Fin 128) :
    (aP m c (ix3 (sq t) r ⟨4096 + ((hd t).val * 128 + d.val), by omega⟩) : EReal) = rowV m c t r.val d := by
  unfold rowV
  rw [dif_pos r.isLt]

theorem start (t : Fin cfg0.N) (r : Fin 2048) (d : Fin 128) :
    aP m c (ix3 (sq t) r ⟨(hd t).val * 128 + d.val, by omega⟩) = aP m c (ix3 (sq t) r ⟨0 + ((hd t).val * 128 + d.val), by omega⟩) :=
  congrArg (fun k => aP m c (ix3 (sq t) r k)) (Fin.ext (Nat.zero_add _).symm)

/-- The reference at a head's column. -/
theorem ref_at (hp : Cert.Pre_KernelIdeal_finite_qk m) (t : Fin cfg0.N) (r : Fin 2048) (d : Fin 128) :
    (Cert.ReferenceIdeal.Read.val_main_v33 (F := Ideal) (aP m c) (ix3 (sq t) r ⟨(hd t).val * 128 + d.val, by omega⟩) : EReal)
      = got (row m c t 0 (by omega)) (row m c t 2048 (by omega)) (rowV m c t) r.val 0 d
        * factor (aP m c (ix3 (sq t) r ⟨6144 + ((hd t).val * 128 + d.val), by omega⟩)) := by
  rw [Ref.v33_at, Ref.v31_at, Ref.v4_at, Ref.v28_gathered (aP m c) (sq t) (hd t) r d (score (row m c t 0 (by omega)) (row m c t 2048 (by omega)) r.val)
    (fun s => rowV m c t s d) (fun s => ?_) (fun s => ?_)]
  · unfold got factor
    rw [zero_sub]
  · rw [Ref.v11_at, score_coe]
    refine Finset.sum_congr rfl fun k _ => ?_
    rw [Ref.v6_at, Ref.v8_at, start, row_coe m c hp t 0 (by omega), row_coe m c hp t 2048 (by omega)]
  · rw [Ref.v10_at, rowV_at]

/-- The attention's result array after the run is the reference's. -/
theorem final (hp : Cert.Pre_KernelIdeal_finite_qk m) : (dats m 0 c).arrAt 25 (cfgs 0).N = Cert.ReferenceIdeal.Read.val_main_v33 (F := Ideal) (aP m c) := by
  refine (dats m 0 c).arrAt_eq_of_covers 25 _ (by decide +kernel) fun t hf y => ?_
  refine Eq.trans (b := out25 m c t y) (congrFun (after_25 m c t) y) ?_
  have ey : ((cfg0.win 25).blk t).view.emb y = ix3 (sq t) (y 1) ⟨(hd t).val * 128 + (y 2).val, by have h2 : (y 2).val < 128 := (y 2).isLt; omega⟩ := funext fun a => Fin.ext (by
    have h0 : (y 0).val < 1 := (y 0).isLt
    match a with
    | ⟨0, _⟩ => show win0_25.index t 0 * 1 + 1 * (y 0).val = t.val / 16; rw [(idx t).2.2.2.2]; show t.val / 16 * 1 + 1 * (y 0).val = _; omega
    | ⟨1, _⟩ => show win0_25.index t 1 * 2048 + 1 * (y 1).val = (y 1).val; rw [(idx t).2.2.2.2]; simp
    | ⟨2, _⟩ => show win0_25.index t 2 * 128 + 1 * (y 2).val = t.val % 16 * 128 + (y 2).val; rw [(idx t).2.2.2.2]; simp)
  refine Eq.trans ?_ (congrArg _ ey).symm
  refine Eq.trans ?_ (ref_at m c hp t (y 1) (y 2)).symm
  have e3 : y = ix3 (0 : Fin 1) (y 1) (y 2) := (eq_ix3 (n0 := 1) (n1 := 2048) (n2 := 128) y).trans (congrArg (fun k : Fin 1 => ix3 k (y 1) (y 2)) (Subsingleton.elim _ _))
  refine (congrArg (out25 m c t) e3).trans ?_
  refine (out_at m c t (Q := row m c t 0 (by omega)) (K := row m c t 2048 (by omega)) (V := rowV m c t) (fun r d => ?_) (fun r d => ?_) (fun r d => ?_) (y 1) (y 2)).trans ?_
  · rw [blkQ, start, row_coe m c hp t 0 (by omega)]
  · rw [blkK, row_coe m c hp t 2048 (by omega)]
  · rw [blkV, rowV_at]
  · exact congrArg (fun g : EReal => got (row m c t 0 (by omega)) (row m c t 2048 (by omega)) (rowV m c t) (y 1).val 0 (y 2) * factor g) (blkG m c t (y 1) (y 2))

/-- Every run leaves the attention's result array at its final contents. -/
theorem run_out (ρ : Dev nD → PrngReg) : θ_run defs (onTc (τ := τ) (main (F := Ideal))) ⟨m, fun _ => 0, ρ⟩ (fun r => ∀ c : Dev nD,
    r.2.mem ((c : Thread nD τ).loc main_v19_1) = (dats m 0 c).arrAt 25 (cfgs 0).N) :=
  (θ_run defs _ _).mono (fun _ h c => ((dats m 0 c).toRForget_arrAt_iff (w := 25) (by decide) _ _).1 ((h.1 c).1 25)) (run_main m ρ)

end Cert.Mix

end
-- ==== Proof.EvenA.lean ====
/- The first input projection of the even layer, and the casts of the other weights it carries along. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The reference's projected columns. -/
abbrev ref (X : FVec Ideal S16384x4096 .bf16) (Wt : FVec Ideal S4096x16640 .f32) : FVec Ideal S16384x8448 .f32 :=
  Cert.Reference2Ideal.Read.val_main_v2 (F := Ideal) X Wt

/-- The reference at row `r` and column `n`. -/
theorem ref_at (X : FVec Ideal S16384x4096 .bf16) (Wt : FVec Ideal S4096x16640 .f32) (r : Fin 16384) (n : Fin 8448) :
    ref X Wt (ix2 r n) = ∑ k : Fin 4096, X (ix2 r k) * Wt (ix2 k ⟨n.val, by omega⟩) := by
  unfold ref Cert.Reference2Ideal.Read.val_main_v2 Cert.Reference2Ideal.Read.val_main_v1 Cert.Reference2Ideal.Read.val_main_v0
  pointwise

/-- The index maps of the windows, at every grid point. -/
theorem idx : ∀ t : Fin cfg0.N, win0_0.index t = ![t.val / 11, 0] ∧ win0_1.index t = ![0, t.val % 11 * 768] ∧ win0_2.index t = ![min t.val 127 * 32, 8448]
    ∧ win0_3.index t = ![min t.val 127 * 32, 0] ∧ win0_4.index t = ![min t.val 127 * 32, 0] ∧ win0_5.index t = ![t.val / 11, t.val % 11]
    ∧ win0_6.index t = ![min t.val 127, 0] ∧ win0_7.index t = ![min t.val 127, 0] ∧ win0_8.index t = ![min t.val 127, 0] :=
  (by decide +kernel : ∀ t : Fin grid0.N, _)

/-- The array the weights' window reads is the argument's first 8448 columns. -/
theorem V_v1 (c : Dev nD) (k : Fin 4096) (n : Fin 8448) : (V m c main_v1 : FVec Ideal S4096x8448 .bf16) (ix2 k n)
    = (m ((c : Thread nD τ).loc main_arg1) : FVec Ideal S4096x16640 .f32) (ix2 k ⟨n.val, by omega⟩) := by
  entry_read
  pointwise

/-- The weights' block at a point, read at row `k` and column `n`. -/
theorem iblk1 (c : Dev nD) (t : Fin cfg0.N) (k : Fin 4096) (n : Fin 768) :
    iblk m c 1 t (ix2 k n) = (m ((c : Thread nD τ).loc main_arg1) : FVec Ideal S4096x16640 .f32) (ix2 k ⟨t.val % 11 * 768 + n.val, by omega⟩) := by
  refine Eq.trans ?_ (V_v1 m c k ⟨t.val % 11 * 768 + n.val, by omega⟩)
  refine congrArg (V m c main_v1 : FVec Ideal S4096x8448 .bf16) (funext fun a => Fin.ext ?_)
  match a with
  | ⟨0, _⟩ => show win0_1.index t 0 + 1 * k.val = k.val; rw [(idx t).2.1]; simp
  | ⟨1, _⟩ => show win0_1.index t 1 + 1 * n.val = t.val % 11 * 768 + n.val; rw [(idx t).2.1]; simp

/-- The block of the array cast at a point, read at its row and column. -/
theorem iblk2 (c : Dev nD) (t : Fin cfg0.N) (k : Fin 32) (n : Fin 8192) :
    iblk m c 2 t (ix2 k n) = (m ((c : Thread nD τ).loc main_arg1) : FVec Ideal S4096x16640 .f32) (ix2 ⟨min t.val 127 * 32 + k.val, by omega⟩ ⟨8448 + n.val, by omega⟩) := by
  refine congrArg (m ((c : Thread nD τ).loc main_arg1) : FVec Ideal S4096x16640 .f32) (funext fun a => Fin.ext ?_)
  match a with
  | ⟨0, _⟩ => show win0_2.index t 0 + 1 * k.val = min t.val 127 * 32 + k.val; rw [(idx t).2.2.1]; simp
  | ⟨1, _⟩ => show win0_2.index t 1 + 1 * n.val = 8448 + n.val; rw [(idx t).2.2.1]; simp

/-- The block of the array cast at a point, read at its row and column. -/
theorem iblk3 (c : Dev nD) (t : Fin cfg0.N) (k : Fin 32) (n : Fin 4096) :
    iblk m c 3 t (ix2 k n) = (m ((c : Thread nD τ).loc main_arg2) : FVec Ideal S4096x4096 .f32) (ix2 ⟨min t.val 127 * 32 + k.val, by omega⟩ ⟨n.val, by omega⟩) := by
  refine congrArg (m ((c : Thread nD τ).loc main_arg2) : FVec Ideal S4096x4096 .f32) (funext fun a => Fin.ext ?_)
  match a with
  | ⟨0, _⟩ => show win0_3.index t 0 + 1 * k.val = min t.val 127 * 32 + k.val; rw [(idx t).2.2.2.1]; simp
  | ⟨1, _⟩ => show win0_3.index t 1 + 1 * n.val = n.val; rw [(idx t).2.2.2.1]; simp

/-- The block of the array cast at a point, read at its row and column. -/
theorem iblk4 (c : Dev nD) (t : Fin cfg0.N) (k : Fin 32) (n : Fin 4096) :
    iblk m c 4 t (ix2 k n) = (m ((c : Thread nD τ).loc main_arg3) : FVec Ideal S4096x4096 .f32) (ix2 ⟨min t.val 127 * 32 + k.val, by omega⟩ ⟨n.val, by omega⟩) := by
  refine congrArg (m ((c : Thread nD τ).loc main_arg3) : FVec Ideal S4096x4096 .f32) (funext fun a => Fin.ext ?_)
  match a with
  | ⟨0, _⟩ => show win0_4.index t 0 + 1 * k.val = min t.val 127 * 32 + k.val; rw [(idx t).2.2.2.2.1]; simp
  | ⟨1, _⟩ => show win0_4.index t 1 + 1 * n.val = n.val; rw [(idx t).2.2.2.2.1]; simp

/-- What the body stores at block index `y` of point `t` is the reference at the array index `y` sits at. -/
theorem point (c : Dev nD) (t : Fin cfg0.N) (y : S1024x768.Idx) :
    k0_pay1 (F := Ideal) (iblk m c 0 t) (iblk m c 1 t) y
      = ref (m ((c : Thread nD τ).loc main_arg0)) (m ((c : Thread nD τ).loc main_arg1)) (((cfg0.win 5).blk t).view.emb y) := by
  rw [eq_ix2 (((cfg0.win 5).blk t).view.emb y)]
  refine Eq.trans ?_ (ref_at _ _ _ _).symm
  pointwise [k0_pay1, iblk1]
  blk_point [iblk, V, idx t]

/-- The projection's result array after the run is the reference's. -/
theorem final (c : Dev nD) : (dats m 0 c).arrAt 5 (cfgs 0).N
    = ref (m ((c : Thread nD τ).loc main_arg0)) (m ((c : Thread nD τ).loc main_arg1)) := by
  refine (dats m 0 c).arrAt_eq_of_covers 5 _ (by decide +kernel) fun t _ y => ?_
  blk_simp
  rw [after0_5]; frame_out
  exact point m c t y

/-- The rest of the input weights, after the run. -/
theorem finalw (c : Dev nD) : (dats m 0 c).arrAt 6 (cfgs 0).N = Cert.Reference2Ideal.Read.val_main_v4 (F := Ideal) (m ((c : Thread nD τ).loc main_arg1)) := by
  refine (dats m 0 c).arrAt_eq_of_covers 6 _ (by decide +kernel) fun t _ y => ?_
  blk_simp
  rw [after0_6]; frame_out
  unfold Cert.Reference2Ideal.Read.val_main_v4 Cert.Reference2Ideal.Read.val_main_v3
  pointwise [k0_pay2]
  rw [eq_ix2 y]
  refine (iblk2 m c t (y 0) (y 1)).trans ?_
  blk_ext [idx t]

/-- The even layer's output weights, after the run. -/
theorem finale (c : Dev nD) : (dats m 0 c).arrAt 7 (cfgs 0).N = Cert.Reference2Ideal.Read.val_main_v5 (F := Ideal) (m ((c : Thread nD τ).loc main_arg2)) := by
  refine (dats m 0 c).arrAt_eq_of_covers 7 _ (by decide +kernel) fun t _ y => ?_
  blk_simp
  rw [after0_7]; frame_out
  unfold Cert.Reference2Ideal.Read.val_main_v5
  pointwise [k0_pay3]
  rw [eq_ix2 y]
  refine (iblk3 m c t (y 0) (y 1)).trans ?_
  blk_ext [idx t]

/-- The odd layer's output weights, after the run. -/
theorem finalo (c : Dev nD) : (dats m 0 c).arrAt 8 (cfgs 0).N = Cert.Reference2Ideal.Read.val_main_v6 (F := Ideal) (m ((c : Thread nD τ).loc main_arg3)) := by
  refine (dats m 0 c).arrAt_eq_of_covers 8 _ (by decide +kernel) fun t _ y => ?_
  blk_simp
  rw [after0_8]; frame_out
  unfold Cert.Reference2Ideal.Read.val_main_v6
  pointwise [k0_pay4]
  rw [eq_ix2 y]
  refine (iblk4 m c t (y 0) (y 1)).trans ?_
  blk_ext [idx t]

end Cert.Kernel2Ideal.Proj

end
-- ==== Proof.EvenB.lean ====
/- The second input projection of the even layer: the query columns scaled by `1 / √128`, the other columns plain; and the cast of the odd layer's weights. -/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The reference's projected columns, the first 2048 of them scaled. -/
abbrev ref (X : FVec Ideal S16384x4096 .bf16) (Wt : FVec Ideal S4096x8192 .bf16) : FVec Ideal S16384x8192 .bf16 :=
  Cert.Reference3Ideal.Read.val_main_v10 (F := Ideal) X Wt

/-- The reference's cast of the odd layer's weights. -/
abbrev refw (Wo : FVec Ideal S4096x12288 .f32) : FVec Ideal S4096x12288 .bf16 :=
  Cert.Reference3Ideal.Read.val_main_v11 (F := Ideal) Wo

/-- The reference's own scale, `1 / √128` computed in the program. -/
theorem scale_val : (Ideal.div (Ideal.ofBits .f32 0x3F800000#32) (Ideal.sqrt (Ideal.ofBits .f32 1124073472#32)) : EReal) = (((Real.sqrt 128)⁻¹ : ℝ) : EReal) := by
  have h : Ideal.ofBits .f32 1124073472#32 = ((128 : ℝ) : EReal) := by
    simp [Ideal.ofBits, Ideal.ieee, -EReal.coe_mul]; norm_num
  have h1 : Ideal.ofBits .f32 0x3F800000#32 = ((1 : ℝ) : EReal) := by
    simp [Ideal.ofBits, Ideal.ieee, -EReal.coe_mul]; norm_num
  have h0 : Real.sqrt 128 ≠ 0 := (Real.sqrt_pos.2 (by norm_num)).ne'
  rw [h, h1, Ideal.sqrt_coe, if_neg (by norm_num), Ideal.div_coe h0, one_div, ← EReal.coe_mul, one_mul]

/-- The reference at row `r` and column `n`: the projection, times the scale when the column is a query's. -/
theorem ref_at (X : FVec Ideal S16384x4096 .bf16) (Wt : FVec Ideal S4096x8192 .bf16) (r : Fin 16384) (n : Fin 8192) :
    ref X Wt (ix2 r n) = (∑ k : Fin 4096, X (ix2 r k) * Wt (ix2 k n)) * (if n.val < 2048 then (((Real.sqrt 128)⁻¹ : ℝ) : EReal) else 1) := by
  unfold ref Cert.Reference3Ideal.Read.val_main_v10 Cert.Reference3Ideal.Read.val_main_v9 Cert.Reference3Ideal.Read.val_main_v8 Cert.Reference3Ideal.Read.val_main_v7 Cert.Reference3Ideal.Read.val_main_v6 Cert.Reference3Ideal.Read.val_main_v5 Cert.Reference3Ideal.Read.val_main_cst_0 Cert.Reference3Ideal.Read.val_main_v4 Cert.Reference3Ideal.Read.val_main_cst Cert.Reference3Ideal.Read.val_main_v3 Cert.Reference3Ideal.Read.val_main_v2 Cert.Reference3Ideal.Read.val_main_v1 Cert.Reference3Ideal.Read.val_main_v0
  pointwise
  have hs := scale_val
  rw [Ideal.ofBits_one_f32] at hs
  by_cases h : n.val < 2048
  · rw [dif_pos h, if_pos h, hs]
  · rw [dif_neg h, if_neg h, mul_one]
    refine Finset.sum_congr rfl fun k _ => congrArg (fun j => X (ix2 r k) * Wt (ix2 k j)) (Fin.ext ?_)
    show 2048 + (n.val - 2048) = n.val
    omega

/-- The index maps of the five windows, at every grid point. -/
theorem idx : ∀ t : Fin cfg0.N, win0_0.index t = ![t.val / 8, 0] ∧ win0_1.index t = ![0, t.val % 8 * 1024] ∧ win0_2.index t = ![t.val * 32, 0]
    ∧ win0_3.index t = ![t.val / 8, t.val % 8] ∧ win0_4.index t = ![t.val, 0] ∧ (grid0.coords t 1).val = t.val % 8 :=
  (by decide +kernel : ∀ t : Fin grid0.N, _)

/-- The weights' block at a point, read at row `k` and column `n`. -/
theorem iblk1 (c : Dev nD) (t : Fin cfg0.N) (k : Fin 4096) (n : Fin 1024) :
    iblk m c 1 t (ix2 k n) = (m ((c : Thread nD τ).loc main_arg1) : FVec Ideal S4096x8192 .bf16) (ix2 k ⟨t.val % 8 * 1024 + n.val, by omega⟩) := by
  refine congrArg (m ((c : Thread nD τ).loc main_arg1) : FVec Ideal S4096x8192 .bf16) (funext fun a => Fin.ext ?_)
  match a with
  | ⟨0, _⟩ => show win0_1.index t 0 + 1 * k.val = k.val; rw [(idx t).2.1]; simp
  | ⟨1, _⟩ => show win0_1.index t 1 + 1 * n.val = t.val % 8 * 1024 + n.val; rw [(idx t).2.1]; simp

/-- The block of the other layer's weights at a point, read at its row and column. -/
theorem iblk2 (c : Dev nD) (t : Fin cfg0.N) (k : Fin 32) (n : Fin 12288) :
    iblk m c 2 t (ix2 k n) = (m ((c : Thread nD τ).loc main_arg2) : FVec Ideal S4096x12288 .f32) (ix2 ⟨t.val * 32 + k.val, by have := t.isLt; have : cfg0.N = 128 := rfl; omega⟩ n) := by
  refine congrArg (m ((c : Thread nD τ).loc main_arg2) : FVec Ideal S4096x12288 .f32) (funext fun a => Fin.ext ?_)
  match a with
  | ⟨0, _⟩ => show win0_2.index t 0 + 1 * k.val = t.val * 32 + k.val; rw [(idx t).2.2.1]; simp
  | ⟨1, _⟩ => show win0_2.index t 1 + 1 * n.val = n.val; rw [(idx t).2.2.1]; simp

/-- The scale the body multiplies by at a column block: `1 / √128` at the first two, one elsewhere. -/
theorem pay_at (c : Dev nD) (t : Fin cfg0.N) (r n : Fin 1024) (A : FVec Ideal S1024x4096 .bf16) (B : FVec Ideal S4096x1024 .bf16) :
    k0_pay1 (F := Ideal) (grid0.coords t) A B (ix2 r n) = (∑ k : Fin 4096, A (ix2 r k) * B (ix2 k n)) * (if t.val % 8 < 2 then (((Real.sqrt 128)⁻¹ : ℝ) : EReal) else 1) := by
  pointwise [k0_pay1]
  congr 1
  have hc : Scalar.cmpi (w := 32) .slt (BitVec.ofNat 32 (grid0.coords t 1).val) 2#32 = if t.val % 8 < 2 then 1#1 else 0#1 := by
    rw [(idx t).2.2.2.2.2]
    have : t.val % 8 < 8 := Nat.mod_lt _ (by decide)
    generalize t.val % 8 = q at this
    revert q
    decide
  rw [hc]
  split_ifs with h
  · exact IdealRules.named_const.ideal_named_scalar Cert.Kernel3Ideal.κ "s" (φ := .f32) _ _ rfl
  · rfl

/-- What the body stores at block index `y` of point `t` is the reference at the array index `y` sits at. -/
theorem point (c : Dev nD) (t : Fin cfg0.N) (y : S1024x1024.Idx) :
    k0_pay1 (F := Ideal) (grid0.coords t) (iblk m c 0 t) (iblk m c 1 t) y
      = ref (m ((c : Thread nD τ).loc main_arg0)) (m ((c : Thread nD τ).loc main_arg1)) (((cfg0.win 3).blk t).view.emb y) := by
  rw [eq_ix2 (((cfg0.win 3).blk t).view.emb y), eq_ix2 y]
  refine Eq.trans (pay_at c t (y 0) (y 1) _ _) (Eq.trans ?_ (ref_at _ _ _ _).symm)
  have hq : (t.val % 8 < 2) = ((((cfg0.win 3).blk t).view.emb y 1).val < 2048) := by
    have he : (((cfg0.win 3).blk t).view.emb y 1).val = t.val % 8 * 1024 + (y 1).val := by
      blk_simp
      simp [idx t]
    have hy : (y 1).val < 1024 := (y 1).isLt
    rw [he]
    exact propext ⟨fun h => by omega, fun h => by omega⟩
  simp only [hq]
  refine congrArg (· * _) ?_
  pointwise [iblk1]
  blk_point [iblk, V, idx t]

/-- The projection's result array after the run is the reference's. -/
theorem final (c : Dev nD) : (dats m 0 c).arrAt 3 (cfgs 0).N
    = ref (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

/-- The weights' result array after the run is the argument, format changes being the identity. -/
theorem finalw (c : Dev nD) : (dats m 0 c).arrAt 4 (cfgs 0).N = refw (m ((c : Thread nD τ).loc main_arg2)) := by
  refine (dats m 0 c).arrAt_eq_of_covers 4 _ (by decide +kernel) fun t _ y => ?_
  blk_simp
  rw [after0_4]; frame_out
  unfold refw Cert.Reference3Ideal.Read.val_main_v11
  pointwise [k0_pay2]
  rw [eq_ix2 y]
  refine (iblk2 m c t (y 0) (y 1)).trans ?_
  blk_ext [idx t]

end Cert.Kernel3Ideal.Proj

end
-- ==== Proof.OddUV.lean ====
/- The uv projection of the odd layer: the Pallas call's result array is the exact gelu of the projected columns. -/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The reference's gelu of the projected columns, as a function of the activations and the weights. -/
abbrev ref (X : FVec Ideal S16384x4096 .bf16) (Wt : FVec Ideal S4096x12288 .bf16) : FVec Ideal S16384x8192 .bf16 :=
  Cert.Reference4Ideal.Read.val_main_v11 (F := Ideal) X Wt

/-- The reference at row `r` and column `n`: half the projection `s` times one plus the error function of `s / √2`. -/
theorem ref_at (X : FVec Ideal S16384x4096 .bf16) (Wt : FVec Ideal S4096x12288 .bf16) (r : Fin 16384) (n : Fin 8192) :
    ref X Wt (ix2 r n) = (Ideal.ofBits .f32 0x3F000000#32 * ∑ k : Fin 4096, X (ix2 r k) * Wt (ix2 k ⟨n.val, by omega⟩))
      * (1 + Ideal.erf ((∑ k : Fin 4096, X (ix2 r k) * Wt (ix2 k ⟨n.val, by omega⟩)) * Ideal.ofBits .f32 0x3F3504F3#32)) := by
  unfold ref Cert.Reference4Ideal.Read.val_main_v11 Cert.Reference4Ideal.Read.val_main_v10 Cert.Reference4Ideal.Read.val_main_v9 Cert.Reference4Ideal.Read.val_main_v8 Cert.Reference4Ideal.Read.val_main_v7 Cert.Reference4Ideal.Read.val_main_v6 Cert.Reference4Ideal.Read.val_main_v5 Cert.Reference4Ideal.Read.val_main_v4 Cert.Reference4Ideal.Read.val_main_v3 Cert.Reference4Ideal.Read.val_main_v2 Cert.Reference4Ideal.Read.val_main_v1 Cert.Reference4Ideal.Read.val_main_v0 Cert.Reference4Ideal.Read.val_main_cst Cert.Reference4Ideal.Read.val_main_cst_0
  pointwise
  rw [neg_mul, Ideal.erfc_neg]

/-- The index maps of the three windows, at every grid point. -/
theorem idx : ∀ t : Fin cfg0.N, win0_0.index t = ![t.val / 8, 0] ∧ win0_1.index t = ![0, t.val % 8 * 1024] ∧ win0_2.index t = ![t.val / 8, t.val % 8] :=
  (by decide +kernel : ∀ t : Fin grid0.N, _)

/-- The weights' block at a point, read at row `k` and column `n`: the window starts at the point's own element column. -/
theorem iblk1 (c : Dev nD) (t : Fin cfg0.N) (k : Fin 4096) (n : Fin 1024) :
    iblk m c 1 t (ix2 k n) = (m ((c : Thread nD τ).loc main_arg1) : FVec Ideal S4096x12288 .bf16) (ix2 k ⟨t.val % 8 * 1024 + n.val, by omega⟩) := by
  refine congrArg (m ((c : Thread nD τ).loc main_arg1) : FVec Ideal S4096x12288 .bf16) (funext fun a => Fin.ext ?_)
  match a with
  | ⟨0, _⟩ => show win0_1.index t 0 + 1 * k.val = k.val; rw [(idx t).2.1]; simp
  | ⟨1, _⟩ => show win0_1.index t 1 + 1 * n.val = t.val % 8 * 1024 + n.val; rw [(idx t).2.1]; simp

/-- What the body stores at block index `y` of point `t` is the reference at the array index `y` sits at. -/
theorem point (c : Dev nD) (t : Fin cfg0.N) (y : S1024x1024.Idx) :
    k0_pay1 (F := Ideal) (iblk m c 0 t) (iblk m c 1 t) y
      = ref (m ((c : Thread nD τ).loc main_arg0)) (m ((c : Thread nD τ).loc main_arg1)) (((cfg0.win 2).blk t).view.emb y) := by
  rw [eq_ix2 (((cfg0.win 2).blk t).view.emb y)]
  refine Eq.trans ?_ (ref_at _ _ _ _).symm
  pointwise [k0_pay1, iblk1, Ideal.erf_def]
  blk_point [iblk, V, idx t]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel4Ideal.Proj

end
-- ==== Proof.OddG.lean ====
/- The gate projection of the odd layer: the Pallas call's result array is the silu of the projected columns. -/
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Proj

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The reference's silu of the projected columns, as a function of the activations and the weights. -/
abbrev ref (X : FVec Ideal S16384x4096 .bf16) (Wt : FVec Ideal S4096x12288 .bf16) : FVec Ideal S16384x4096 .bf16 :=
  Cert.Reference5Ideal.Read.val_main_v5 (F := Ideal) X Wt

/-- The reference at row `r` and column `n`: the projection `s` times `1 / (1 + exp (-s))`. -/
theorem ref_at (X : FVec Ideal S16384x4096 .bf16) (Wt : FVec Ideal S4096x12288 .bf16) (r : Fin 16384) (n : Fin 4096) :
    ref X Wt (ix2 r n) = (∑ k : Fin 4096, X (ix2 r k) * Wt (ix2 k ⟨8192 + n.val, by omega⟩))
      * Ideal.div 1 (1 + Ideal.exp (-(∑ k : Fin 4096, X (ix2 r k) * Wt (ix2 k ⟨8192 + n.val, by omega⟩)))) := by
  unfold ref Cert.Reference5Ideal.Read.val_main_v5 Cert.Reference5Ideal.Read.val_main_v4 Cert.Reference5Ideal.Read.val_main_call0_v5 Cert.Reference5Ideal.Read.val_main_call0_v4 Cert.Reference5Ideal.Read.val_main_call0_cst_0 Cert.Reference5Ideal.Read.val_main_call0_v3 Cert.Reference5Ideal.Read.val_main_call0_v2 Cert.Reference5Ideal.Read.val_main_call0_cst Cert.Reference5Ideal.Read.val_main_call0_v1 Cert.Reference5Ideal.Read.val_main_call0_v0 Cert.Reference5Ideal.Read.val_main_v3 Cert.Reference5Ideal.Read.val_main_v2 Cert.Reference5Ideal.Read.val_main_v1 Cert.Reference5Ideal.Read.val_main_v0
  pointwise

/-- The index maps of the three windows, at every grid point. -/
theorem idx : ∀ t : Fin cfg0.N, win0_0.index t = ![t.val / 4, 0] ∧ win0_1.index t = ![0, 8192 + t.val % 4 * 1024] ∧ win0_2.index t = ![t.val / 4, t.val % 4] :=
  (by decide +kernel : ∀ t : Fin grid0.N, _)

/-- The weights' block at a point, read at row `k` and column `n`: the window starts at the point's own element column. -/
theorem iblk1 (c : Dev nD) (t : Fin cfg0.N) (k : Fin 4096) (n : Fin 1024) :
    iblk m c 1 t (ix2 k n) = (m ((c : Thread nD τ).loc main_arg1) : FVec Ideal S4096x12288 .bf16) (ix2 k ⟨8192 + t.val % 4 * 1024 + n.val, by omega⟩) := by
  refine congrArg (m ((c : Thread nD τ).loc main_arg1) : FVec Ideal S4096x12288 .bf16) (funext fun a => Fin.ext ?_)
  match a with
  | ⟨0, _⟩ => show win0_1.index t 0 + 1 * k.val = k.val; rw [(idx t).2.1]; simp
  | ⟨1, _⟩ => show win0_1.index t 1 + 1 * n.val = 8192 + t.val % 4 * 1024 + n.val; rw [(idx t).2.1]; simp

/-- What the body stores at block index `y` of point `t` is the reference at the array index `y` sits at. -/
theorem point (c : Dev nD) (t : Fin cfg0.N) (y : S1024x1024.Idx) :
    k0_pay1 (F := Ideal) (iblk m c 0 t) (iblk m c 1 t) y
      = ref (m ((c : Thread nD τ).loc main_arg0)) (m ((c : Thread nD τ).loc main_arg1)) (((cfg0.win 2).blk t).view.emb y) := by
  rw [eq_ix2 (((cfg0.win 2).blk t).view.emb y)]
  refine Eq.trans ?_ (ref_at _ _ _ _).symm
  pointwise [k0_pay1, iblk1, zero_sub]
  blk_point [iblk, V, idx t]

/-- The gate projection's result array after the run is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel5Ideal.Proj

end
-- ==== Proof.EvenOut.lean ====
/- The output projection of the even layer: the residual stream plus the two mixers' outputs times the weights. -/
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel6Ideal.Proj

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The reference's residual sum, as a function of the two mixers' outputs, the weights and the residual stream. -/
abbrev ref (A B : FVec Ideal S16384x2048 .bf16) (Wt : FVec Ideal S4096x4096 .bf16) (X : FVec Ideal S16384x4096 .f32) : FVec Ideal S16384x4096 .f32 :=
  Cert.Reference6Ideal.Read.val_main_v4 (F := Ideal) A B Wt X

/-- The reference at row `r` and column `n`: the contraction over the joined columns is the sum of the two halves'. -/
theorem ref_at (A B : FVec Ideal S16384x2048 .bf16) (Wt : FVec Ideal S4096x4096 .bf16) (X : FVec Ideal S16384x4096 .f32) (r : Fin 16384) (n : Fin 4096) :
    ref A B Wt X (ix2 r n) = X (ix2 r n) + ((∑ k : Fin 2048, A (ix2 r k) * Wt (ix2 ⟨k.val, by omega⟩ n)) + ∑ k : Fin 2048, B (ix2 r k) * Wt (ix2 ⟨2048 + k.val, by omega⟩ n)) := by
  unfold ref Cert.Reference6Ideal.Read.val_main_v4 Cert.Reference6Ideal.Read.val_main_v3 Cert.Reference6Ideal.Read.val_main_v2 Cert.Reference6Ideal.Read.val_main_v1 Cert.Reference6Ideal.Read.val_main_v0
  pointwise

/-- The index maps of the six windows, at every grid point. -/
theorem idx : ∀ t : Fin cfg0.N, win0_0.index t = ![t.val / 4, 0] ∧ win0_1.index t = ![t.val / 4, 0] ∧ win0_2.index t = ![0, t.val % 4] ∧ win0_3.index t = ![1, t.val % 4]
    ∧ win0_4.index t = ![t.val / 4, t.val % 4] ∧ win0_5.index t = ![t.val / 4, t.val % 4] :=
  (by decide +kernel : ∀ t : Fin grid0.N, _)

/-- What the body stores at block index `y` of point `t` is the reference at the array index `y` sits at. -/
theorem point (c : Dev nD) (t : Fin cfg0.N) (y : S1024x1024.Idx) :
    k0_pay1 (F := Ideal) (iblk m c 0 t) (iblk m c 2 t) (iblk m c 1 t) (iblk m c 3 t) (iblk m c 4 t) y
      = ref (m ((c : Thread nD τ).loc main_arg0)) (m ((c : Thread nD τ).loc main_arg1)) (m ((c : Thread nD τ).loc main_arg2)) (m ((c : Thread nD τ).loc main_arg3)) (((cfg0.win 5).blk t).view.emb y) := by
  rw [eq_ix2 (((cfg0.win 5).blk t).view.emb y)]
  refine Eq.trans ?_ (ref_at _ _ _ _ _ _).symm
  pointwise [k0_pay1]
  blk_point [iblk, V, idx t]

/-- The output projection's result array after the run is the reference's. -/
theorem final (c : Dev nD) : (dats m 0 c).arrAt 5 (cfgs 0).N
    = ref (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point m c t y

end Cert.Kernel6Ideal.Proj

end
-- ==== Proof.TailRun.lean ====
/- The odd layer's tail: the body's run at the points that continue a row block, from a known output buffer. -/
module

public import proofs.«01_k».proof.Proof.Gen.Kernel7Ideal.Frame.RunA
public import Idealize.ShloMosaic.Lib.VecWindow

@[expose] public section

set_option maxRecDepth 16384

noncomputable section

namespace Cert.Tail

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole of the output's buffer, as one piece. -/
abbrev whole (o : Vec F S512x4096 .f32) : View.Piece (Elt F) S512x4096 .f32 :=
  ⟨Rect.unit (s := S512x4096) ![0, 0] S512x4096.size inb_S512x4096_S512x4096_0_0, o⟩

/-- A buffer read as `o` is itself with `o` written over the whole of it. -/
theorem eq_writes_whole {v : Memref sig .tc .vmem S512x4096 .f32} (h : v.IsWhole) {o : Vec F S512x4096 .f32} {f : v.view.ty.Contents (Elt F)}
    (hf : v.view.read (Elt F) f = o) : f = v.view.writes (Elt F) f [whole o] :=
  (h.eq_unread hf).trans (h.eq_unread (View.read_writes_full v.view f inb_S512x4096_S512x4096_0_0 o [])).symm

set_option maxHeartbeats 40000000 in
/-- The pieces a middle point's body leaves in the output's buffer, last first, over what the buffer held; with the run that leaves them. -/
def runB (c : Dev nD) (i : grid0.Coords)
    (arg2 : Memref sig .tc .vmem S512x512 .bf16) (harg2 : arg2.IsWhole) (arg3 : Memref sig .tc .vmem S512x4096 .bf16) (harg3 : arg3.IsWhole) (arg4 :
    Memref sig .tc .vmem S512x512 .bf16) (harg4 : arg4.IsWhole) (arg5 : Memref sig .tc .vmem S1x512 .f32) (harg5 : arg5.IsWhole) (arg6 : Memref sig .tc
    .vmem S1x512 .f32) (harg6 : arg6.IsWhole) (arg7 : Memref sig .tc .vmem S16x128x128 .f32) (harg7 : arg7.IsWhole) (arg8 : Memref sig .tc .vmem S16x128x1
    .f32) (harg8 : arg8.IsWhole) (arg9 : Memref sig .tc .vmem S512x4096 .bf16) (harg9 : arg9.IsWhole) (arg10 : Memref sig .tc .vmem S512x512 .f32) (harg10
    : arg10.IsWhole) (arg11 : Memref sig .tc .vmem S1x4096 .f32) (harg11 : arg11.IsWhole) (arg12 : Memref sig .tc .vmem S512x4096 .f32) (harg12 :
    arg12.IsWhole) (arg13 : Memref sig .tc .vmem S512x1 .f32) (harg13 : arg13.IsWhole) (arg14 : Memref sig .tc .vmem S512x1 .f32) (harg14 : arg14.IsWhole)
    (hc0 : ¬cond0_0 i) (hc1 : ¬cond0_1 i)
    (x0 : Vec F S512x512 .bf16) (x1 : Vec F S512x4096 .bf16) (x2 : Vec F S512x512 .bf16) (x3 : Vec F S1x512 .f32) (x4 : Vec F S1x512 .f32) (x5 : Vec F
    S16x128x128 .f32) (x6 : Vec F S16x128x1 .f32) (x7 : Vec F S512x4096 .bf16) (x8 : Vec F S512x512 .f32) (x9 : Vec F S1x4096 .f32) (o : Vec F S512x4096
    .f32) (mu : Vec F S512x1 .f32) (rs : Vec F S512x1 .f32) :
    { L : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD
          τ) arg5 fullShare x3 ∗ owns (c : Thread nD τ) arg6 fullShare x4 ∗ owns (c : Thread nD τ) arg7 fullShare x5 ∗ owns (c : Thread nD τ) arg8 fullShare x6
          ∗ owns (c : Thread nD τ) arg9 fullShare x7 ∗ owns (c : Thread nD τ) arg10 fullShare x8 ∗ owns (c : Thread nD τ) arg11 fullShare x9 ∗ owns (c : Thread
          nD τ) arg12 fullShare o ∗ owns (c : Thread nD τ) arg13 fullShare mu ∗ owns (c : Thread nD τ) arg14 fullShare rs
          ∗ (iprop(owns (c : Thread nD τ) arg2 fullShare x0 ∗ owns (c : Thread nD τ) arg3 fullShare x1 ∗ owns (c : Thread nD τ) arg4 fullShare x2 ∗ owns (c : Thread nD
            τ) arg5 fullShare x3 ∗ owns (c : Thread nD τ) arg6 fullShare x4 ∗ owns (c : Thread nD τ) arg7 fullShare x5 ∗ owns (c : Thread nD τ) arg8 fullShare x6
            ∗ owns (c : Thread nD τ) arg9 fullShare x7 ∗ owns (c : Thread nD τ) arg10 fullShare x8 ∗ owns (c : Thread nD τ) arg11 fullShare x9 ∗ (∃ f,
            arg12.view.loc (c : Thread nD τ) ↦[arg12.view.set]{fullShare} arg12.view.writes (Elt F) f L) ∗ owns (c : Thread nD τ) arg13 fullShare mu ∗ owns (c :
            Thread nD τ) arg14 fullShare rs)
            -∗ K ⟨⟩))
          ⊢ wp frame (wpE (defs₀ (F := F)) Variants.none c none) E
            (cc0_odd_tail i arg2 harg2 arg3 harg3 arg4 harg4 arg5 harg5 arg6 harg6 arg7 harg7 arg8 harg8 arg9 harg9 arg10 harg10 arg11 harg11 arg12 harg12 arg13
              harg13 arg14 harg14) K } := by
  refine ⟨?_, fun E K => ?run⟩
  case run =>
    simp only [cc0_odd_tail_eq_skeleton]; unfold cc0_odd_tail_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8,
      %hf8, H8⟩, ⟨%f9, %hf9, H9⟩, ⟨%f10, %hf10, H10⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3; obtain rfl
      := harg6.eq_unread hf4; obtain rfl := harg7.eq_unread hf5; obtain rfl := harg8.eq_unread hf6; obtain rfl := harg9.eq_unread hf7; obtain rfl :=
      harg10.eq_unread hf8; obtain rfl := harg11.eq_unread hf9; obtain rfl := harg13.eq_unread hs0; obtain rfl := harg14.eq_unread hs1
    rw [eq_writes_whole harg12 hf10]
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]
    · iexists _; isplitr; · ipureintro; exact harg13.read_unread _
      iexact HS0
    iexists _; isplitr; · ipureintro; exact harg14.read_unread _
    iexact HS1

end Cert.Tail

end
-- ==== Proof.TailFrame.lean ====
/- The odd layer's tail, its frame: every run ends with the arguments as they were and the output, row block by row block, at what the last
   point of that block leaves. -/
module

public import proofs.«01_k».proof.Proof.TailRunC
public import Idealize.ShloMosaic.Lib.Claim

@[expose] public section

set_option maxRecDepth 16384

noncomputable section

namespace Cert.Tail

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

local notation "𝕄" => MT nD τ sig Unit (Elt F) ℕ (UR sig nD τ) ℕ

/-- What the body carries from a point to the next: the output's buffer, the rows' means, the rows' reciprocal deviations. -/
abbrev State (F : FTy → Type) : Type := Vec F S512x4096 .f32 × Vec F S512x1 .f32 × Vec F S512x1 .f32

/-- The run of a row block's first point. -/
abbrev firstRun (c : Dev nD) (t : Fin cfg0.N) (h0 : t.val % 8 = 0) :=
  kernelRun0_A (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t)
    (hs0_7 t) (ms0_8 t) (hs0_8 t) (ms0_9 t) (hs0_9 t) (ms0_10 t) (hs0_10 t) scM0_0 (Memref.isWhole_whole _) scM0_1 (Memref.isWhole_whole _)
    ((hcond0_0 t).mpr h0) (fun h => by have := (hcond0_1 t).mp h; omega)
    (iblk m c 0 t) (iblk m c 1 t) (iblk m c 2 t) (iblk m c 3 t) (iblk m c 4 t) (iblk m c 5 t) (iblk m c 6 t) (iblk m c 7 t) (iblk m c 8 t) (iblk m c 9 t)

/-- The run of a middle point, from the state the point before left. -/
abbrev midRun (c : Dev nD) (t : Fin cfg0.N) (h0 : ¬t.val % 8 = 0) (h1 : ¬t.val % 8 = 7) (s : State F) :=
  runB (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t)
    (hs0_7 t) (ms0_8 t) (hs0_8 t) (ms0_9 t) (hs0_9 t) (ms0_10 t) (hs0_10 t) scM0_0 (Memref.isWhole_whole _) scM0_1 (Memref.isWhole_whole _)
    (fun h => h0 ((hcond0_0 t).mp h)) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t) s.1 s.2.1 s.2.2

/-- The run of a last point, from the state the point before left. -/
abbrev lastRun (c : Dev nD) (t : Fin cfg0.N) (h0 : ¬t.val % 8 = 0) (h1 : t.val % 8 = 7) (s : State F) :=
  runC (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t)
    (hs0_7 t) (ms0_8 t) (hs0_8 t) (ms0_9 t) (hs0_9 t) (ms0_10 t) (hs0_10 t) scM0_0 (Memref.isWhole_whole _) scM0_1 (Memref.isWhole_whole _)
    (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (iblk m c 8 t) (iblk m c 9 t) s.1 s.2.1 s.2.2

theorem cover_first (c : Dev nD) (t : Fin cfg0.N) (h0 : t.val % 8 = 0) (y : S512x4096.Idx) : ∃ p ∈ (firstRun m c t h0).1, y ∈ p.1.set :=
  View.cover_of_wholeMem _ (by sl_whole_mem) y
theorem cover_mean (c : Dev nD) (t : Fin cfg0.N) (h0 : t.val % 8 = 0) (y : S512x1.Idx) : ∃ p ∈ (firstRun m c t h0).2.1, y ∈ p.1.set :=
  View.cover_of_tiledL _ S512x1.size (by sl_kernel_rfl) y
theorem cover_rstd (c : Dev nD) (t : Fin cfg0.N) (h0 : t.val % 8 = 0) (y : S512x1.Idx) : ∃ p ∈ (firstRun m c t h0).2.2.1, y ∈ p.1.set :=
  View.cover_of_tiledL _ S512x1.size (by sl_kernel_rfl) y
theorem cover_mid (c : Dev nD) (t : Fin cfg0.N) (h0 : ¬t.val % 8 = 0) (h1 : ¬t.val % 8 = 7) (s : State F) (y : S512x4096.Idx) :
    ∃ p ∈ (midRun m c t h0 h1 s).1, y ∈ p.1.set :=
  View.cover_of_wholeMem _ (by sl_whole_mem) y
theorem cover_last (c : Dev nD) (t : Fin cfg0.N) (h0 : ¬t.val % 8 = 0) (h1 : t.val % 8 = 7) (s : State F) (y : S512x4096.Idx) :
    ∃ p ∈ (lastRun m c t h0 h1 s).1, y ∈ p.1.set :=
  View.cover_of_wholeMem _ (by sl_whole_mem) y

/-- The output's buffer after a first point. -/
def firstOut (c : Dev nD) (t : Fin cfg0.N) (h0 : t.val % 8 = 0) : Vec F S512x4096 .f32 :=
  VO0_10.read (Elt F) (VO0_10.writes (Elt F) VO0_10.junk (firstRun m c t h0).1)
/-- The means after a first point. -/
def firstMean (c : Dev nD) (t : Fin cfg0.N) (h0 : t.val % 8 = 0) : Vec F S512x1 .f32 :=
  VS0_0.read (Elt F) (VS0_0.writes (Elt F) VS0_0.junk (firstRun m c t h0).2.1)
/-- The reciprocal deviations after a first point. -/
def firstRstd (c : Dev nD) (t : Fin cfg0.N) (h0 : t.val % 8 = 0) : Vec F S512x1 .f32 :=
  VS0_1.read (Elt F) (VS0_1.writes (Elt F) VS0_1.junk (firstRun m c t h0).2.2.1)
/-- The output's buffer after a middle point. -/
def midOut (c : Dev nD) (t : Fin cfg0.N) (h0 : ¬t.val % 8 = 0) (h1 : ¬t.val % 8 = 7) (s : State F) : Vec F S512x4096 .f32 :=
  VO0_10.read (Elt F) (VO0_10.writes (Elt F) VO0_10.junk (midRun m c t h0 h1 s).1)
/-- The output's buffer after a last point. -/
def lastOut (c : Dev nD) (t : Fin cfg0.N) (h0 : ¬t.val % 8 = 0) (h1 : t.val % 8 = 7) (s : State F) : Vec F S512x4096 .f32 :=
  VO0_10.read (Elt F) (VO0_10.writes (Elt F) VO0_10.junk (lastRun m c t h0 h1 s).1)

/-- The state after point `n`. -/
def state (c : Dev nD) : (n : ℕ) → n < cfg0.N → State F
  | 0, h => (firstOut m c ⟨0, h⟩ rfl, firstMean m c ⟨0, h⟩ rfl, firstRstd m c ⟨0, h⟩ rfl)
  | n + 1, h =>
    if h0 : (n + 1) % 8 = 0 then (firstOut m c ⟨n + 1, h⟩ h0, firstMean m c ⟨n + 1, h⟩ h0, firstRstd m c ⟨n + 1, h⟩ h0)
    else if h1 : (n + 1) % 8 = 7 then
      (lastOut m c ⟨n + 1, h⟩ h0 h1 (state c n (Nat.lt_of_succ_lt h)), (state c n (Nat.lt_of_succ_lt h)).2)
    else (midOut m c ⟨n + 1, h⟩ h0 h1 (state c n (Nat.lt_of_succ_lt h)), (state c n (Nat.lt_of_succ_lt h)).2)

/-- The state the point before left. -/
abbrev prev (c : Dev nD) (t : Fin cfg0.N) : State F := state m c (t.val - 1) (Nat.lt_of_le_of_lt (Nat.sub_le _ _) t.isLt)

theorem state_first (c : Dev nD) (t : Fin cfg0.N) (h0 : t.val % 8 = 0) :
    state m c t.val t.isLt = (firstOut m c t h0, firstMean m c t h0, firstRstd m c t h0) := by
  obtain ⟨n, hn⟩ := t
  cases n with
  | zero => rfl
  | succ n => exact dif_pos h0

theorem state_mid (c : Dev nD) (t : Fin cfg0.N) (h0 : ¬t.val % 8 = 0) (h1 : ¬t.val % 8 = 7) :
    state m c t.val t.isLt = (midOut m c t h0 h1 (prev m c t), (prev m c t).2) := by
  obtain ⟨n, hn⟩ := t
  cases n with
  | zero => exact absurd rfl h0
  | succ n => exact (dif_neg h0).trans (dif_neg h1)

theorem state_last (c : Dev nD) (t : Fin cfg0.N) (h0 : ¬t.val % 8 = 0) (h1 : t.val % 8 = 7) :
    state m c t.val t.isLt = (lastOut m c t h0 h1 (prev m c t), (prev m c t).2) := by
  obtain ⟨n, hn⟩ := t
  cases n with
  | zero => exact absurd rfl h0
  | succ n => exact (dif_neg h0).trans (dif_pos h1)

/-- The two scratch buffers between points: at anything before the first, then at the state's. -/
def scratch (c : Dev nD) : (n : ℕ) → n ≤ cfg0.N → sProp 𝕄
  | 0, _ => Pipeline.ΦA spec0 c
  | n + 1, h => iprop((owns (c : Thread nD τ) scM0_0 fullShare (state m c n h).2.1
      ∗ owns (c : Thread nD τ) scM0_1 fullShare (state m c n h).2.2) ∗ (∃ r, prngReg c r))

theorem scratch_pos (c : Dev nD) (t : Fin cfg0.N) (h : ¬t.val = 0) :
    scratch m c t.val t.isLt.le = iprop((owns (c : Thread nD τ) scM0_0 fullShare (prev m c t).2.1
      ∗ owns (c : Thread nD τ) scM0_1 fullShare (prev m c t).2.2) ∗ (∃ r, prngReg c r)) := by
  obtain ⟨n, hn⟩ := t
  cases n with
  | zero => exact absurd rfl h
  | succ n => rfl

/-- Whatever the scratch holds, it is owned at something. -/
theorem scratch_any (c : Dev nD) (n : ℕ) (h : n ≤ cfg0.N) : scratch m c n h ⊢ Pipeline.ΦA spec0 c := by
  cases n with
  | zero => exact Entails.refl _
  | succ n =>
    rw [PhiA0_eq]; unfold scratch
    iintro ⟨⟨HS0, HS1⟩, Hg⟩
    isplitl [HS0 HS1]
    · isplitl [HS0]
      · iexists _; iexact HS0
      iexists _; iexact HS1
    iexact Hg

/-- The pipeline's contents on core `c`: the arrays as they are entered, each input's buffer at its block, the output's at the state's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (state m c t.val t.isLt).1
  Φ t := scratch m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem scratch_castSucc (c : Dev nD) (t : Fin cfg0.N) : (dats m 0 c).Φ t.castSucc = scratch m c t.val t.isLt.le := by
  dsimp only [dats]; exact Dat.Φ_castSucc (scratch m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (state m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- Past a row block's first point the output's buffer holds what the point before left. -/
theorem before_10 (c : Dev nD) (t : Fin cfg0.N) (h0 : ¬t.val % 8 = 0) (d) : (dats m 0 c).before 10 t d = (prev m c t).1 := by
  have hN : t.val < 256 := lt_of_lt_of_eq t.isLt N_0
  rw [Dat.before_out_kept _ 10 rfl t (by omega) (Bool.eq_false_iff.mpr fun h => by have := (flush0_10 _).mp h; dsimp only at this; omega)
    (fun _ => rfl) (fun _ _ => rfl)]
  dsimp only [dats]

/-- What the pipeline hands the body at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What the body hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 25600000 in
/-- The body, at every point, takes what it is handed to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    after_0, after_1, after_2, after_3, after_4, after_5, after_6, after_7, after_8, after_9, after_10]
  rw [show (dats m 0 c).Φ t.succ = iprop((owns (c : Thread nD τ) scM0_0 fullShare (state m c t.val t.isLt).2.1
      ∗ owns (c : Thread nD τ) scM0_1 fullShare (state m c t.val t.isLt).2.2) ∗ (∃ r, prngReg c r)) from rfl, scratch_castSucc m c t]
  by_cases h0 : t.val % 8 = 0
  · skip
    rw [state_first m c t h0]; unfold firstOut firstMean firstRstd; dsimp only
    refine (sep_mono_left (scratch_any m c t.val t.isLt.le)).trans ?_
    rw [PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((firstRun m c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    iintro ⟨H0, H1, H2, H3, H4, H5, H6, H7, H8, H9, ⟨%e10, H10⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (cover_mean m c t h0)
        unfold owns; iexists _; isplitr
        swap; · iexact HS1
        ipureintro; exact View.read_writes_of_cover _ _ _ _ _ (cover_rstd m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover_first m c t h0)
  · have hz : ¬t.val = 0 := fun h => h0 (by rw [h])
    simp only [before_10 m c t h0]
    by_cases h1 : t.val % 8 = 7
    · skip
      rw [state_last m c t h0 h1]; unfold lastOut; dsimp only
      rw [scratch_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((lastRun m c t h0 h1 (prev m c t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, ⟨%e10, H10⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover_last m c t h0 h1 (prev m c t))

    · skip
      rw [state_mid m c t h0 h1]; unfold midOut; dsimp only
      rw [scratch_pos m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((midRun m c t h0 h1 (prev m c t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, ⟨%e10, H10⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover_mid m c t h0 h1 (prev m c t))

/-- The body table's row at point `t` is the body on that point's buffers. -/
theorem row_eq (t : Fin cfg0.N) :
    defs₀ (F := F) .tc cfg0.body (cfg0.bodyArgs t (cfg0.slots t)) = bodyAt0 t := by
  unfold defs₀; rw [Defs.onTc_tc]

/-- The body's triple in the form the pipeline asks for. -/
theorem obliged (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- Every run ends, with the pipeline's arrays at their final contents and every counter at zero. -/
theorem run_main : θ_run defs (onTc (τ := τ) (main (F := F))) (s₀ m ρ) (fun r =>
    Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obliged m c).loose) (hq := fun _ _ _ => rfl)
    (howed := fun _ _ => rfl) (V := V m) (hmain := hmain m Variants.none) (hA := A_eq m)
    (hin := fun c => Entails.refl _) (hout := fun c => scratch_any m c cfg0.N le_rfl)

/-- Every run ends with every argument as it was and every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Tail

end
-- ==== Proof.TailTwin.lean ====
/- The odd layer's tail: the frame of the program as it is printed. -/
module

public import proofs.«01_k».proof.Proof.TailFrame
public import proofs.«01_k».proof.Proof.Gen.Kernel7.Launch
public import proofs.«01_k».proof.Defs

@[expose] public section

set_option maxRecDepth 16384
set_option maxHeartbeats 40000000

noncomputable section

namespace Cert.Tail

open Idealize.ShloMosaic Idealize.SL.Sem

/-- At the hardware's numbers the printed program and its idealization have the same body. -/
theorem body_twin : Cert.Kernel7.defs₀ (F := Bits) = Cert.Kernel7Ideal.defs₀ (F := Bits) := by
  unfold Cert.Kernel7.defs₀ Cert.Kernel7Ideal.defs₀
  congr 1
  funext l x
  match l with
  | 0 => rfl

/-- They have the same host program. -/
theorem main_twin : Cert.Kernel7.main (F := Bits) = Cert.Kernel7Ideal.main (F := Bits) := rfl

/-- They have the same pipelined calls. -/
theorem defs_twin : Cert.Kernel7.defs (F := Bits) = Cert.Kernel7Ideal.defs (F := Bits) :=
  congrArg (Idealize.ShloMosaic.Pipeline.defs (Cert.Kernel7.pcfgs (F := Bits))) body_twin

/-- The printed program keeps its arguments and leaves no signal behind. -/
theorem kept_bits : Cert.quiescent_Kernel7 := by
  intro m g _
  rw [defs_twin, main_twin]
  exact kept (F := Bits) m g

end Cert.Tail

end
-- ==== Proof.TailStack.lean ====
/- Column slabs stored one after another into a block of 512 rows: what the block holds, read at an index. -/
module

public import proofs.«01_k».proof.Proof.TailFrame
public import Idealize.ShloMosaic.Lib.Pipeline.ValueKit
public import Idealize.ShloMosaic.Lib.Pointwise

@[expose] public section

set_option maxRecDepth 16384

noncomputable section

namespace Cert.Tail

open Cert.Kernel7Ideal Cert.Kernel7Ideal.Gen Idealize.ShloMosaic Idealize.ShloMosaic.TcCoe Idealize.SL.Sem
open Idealize.ShloMosaic.Pipeline (Dat)

/-- The stores into the output's block, newest first. -/
abbrev Stores : Type := List (View.Piece (Elt Ideal) S512x4096 .f32)

/-- What the block holds at row `p` and column `q` after the stores. -/
def held (L : Stores) (p : Fin 512) (q : Fin 4096) : EReal := View.canon (Val := Elt Ideal) (s := S512x4096) (e := .f32) L (ix2 p q)

theorem room {off : Fin 2 → ℕ} {c n : ℕ} (ho : off = ![0, c]) (inb : ∀ a, off a + ![512, n] a ≤ S512x4096.size a) : c + n ≤ 4096 := by
  subst ho; exact inb 1

/-- A slab of columns stored last is what its columns hold; the others hold what they held. -/
theorem held_cons {off : Fin 2 → ℕ} {c n : ℕ} (ho : off = ![0, c]) (inb : ∀ a, off a + ![512, n] a ≤ S512x4096.size a)
    (w : (⟨2, ![512, n]⟩ : Shape).Idx → EReal) (L : Stores) (p : Fin 512) (q : Fin 4096) :
    held (⟨Rect.unit (s := S512x4096) off ![512, n] inb, w⟩ :: L) p q
      = if h : c ≤ q.val ∧ q.val < c + n then w (ix2 p ⟨q.val - c, by omega⟩) else held L p q := by
  subst ho
  unfold held
  by_cases h : c ≤ q.val ∧ q.val < c + n
  · rw [dif_pos h]
    have e : (ix2 p q : S512x4096.Idx) = (Rect.unit (s := S512x4096) ![0, c] ![512, n] inb).emb (ix2 p ⟨q.val - c, by omega⟩) := by
      funext a
      refine Fin.ext ?_
      match a with
      | ⟨0, _⟩ => show p.val = 0 + 1 * p.val; omega
      | ⟨1, _⟩ => show q.val = c + 1 * (q.val - c); omega
    rw [e]
    exact View.canon_cons_emb (Val := Elt Ideal) (e := .f32) (Rect.unit (s := S512x4096) ![0, c] ![512, n] inb) w L _
  · rw [dif_neg h]
    refine View.canon_cons_of_not_mem _ L fun hm => h ?_
    obtain ⟨x, hx⟩ := (Rect.unit (s := S512x4096) ![0, c] ![512, n] inb).exists_idx_of_mem hm
    have h1 : q.val = c + 1 * (x 1).val := (congrArg (fun y : S512x4096.Idx => (y 1).val) hx).symm
    have h2 : (x 1).val < n := (x 1).isLt
    omega

/-- Adding to a slab of columns adds there and nowhere else. -/
theorem held_add {off : Fin 2 → ℕ} {c n : ℕ} (ho : off = ![0, c]) (inb : ∀ a, off a + ![512, n] a ≤ S512x4096.size a)
    (w : (⟨2, ![512, n]⟩ : Shape).Idx → EReal) (L : Stores) (D : Fin 512 → Fin 4096 → EReal)
    (hw : ∀ (p : Fin 512) (x : Fin n), w (ix2 p x) = held L p ⟨c + x.val, by have := room ho inb; omega⟩ + D p ⟨c + x.val, by have := room ho inb; omega⟩)
    (p : Fin 512) (q : Fin 4096) :
    held (⟨Rect.unit (s := S512x4096) off ![512, n] inb, w⟩ :: L) p q
      = held L p q + if c ≤ q.val ∧ q.val < c + n then D p q else 0 := by
  rw [held_cons ho]
  split
  · rename_i h
    rw [hw]
    have e : (⟨c + (q.val - c), by omega⟩ : Fin 4096) = q := Fin.ext (by show c + (q.val - c) = q.val; omega)
    simp only [e]
  · exact (add_zero _).symm

/-- Replacing a slab of columns, each entry by a function of its place. -/
theorem held_put {off : Fin 2 → ℕ} {c n : ℕ} (ho : off = ![0, c]) (inb : ∀ a, off a + ![512, n] a ≤ S512x4096.size a)
    (w : (⟨2, ![512, n]⟩ : Shape).Idx → EReal) (L : Stores) (D : Fin 512 → Fin 4096 → EReal)
    (hw : ∀ (p : Fin 512) (x : Fin n), w (ix2 p x) = D p ⟨c + x.val, by have := room ho inb; omega⟩)
    (p : Fin 512) (q : Fin 4096) :
    held (⟨Rect.unit (s := S512x4096) off ![512, n] inb, w⟩ :: L) p q = if c ≤ q.val ∧ q.val < c + n then D p q else held L p q := by
  rw [held_cons ho]
  split
  · rename_i h
    rw [hw]
    have e : (⟨c + (q.val - c), by omega⟩ : Fin 4096) = q := Fin.ext (by show c + (q.val - c) = q.val; omega)
    simp only [e]
  · rfl

/-- A slab of columns loaded back is what the block holds there. -/
theorem back {off : Fin 2 → ℕ} {c n : ℕ} (ho : off = ![0, c]) (inb : ∀ a, off a + ![512, n] a ≤ S512x4096.size a) {κ : Kind} {sp : Space}
    (v : View sig κ sp S512x4096 .f32) (L : Stores) (p : Fin 512) (x : Fin n) :
    v.readCov (Val := Elt Ideal) L (Rect.unit (s := S512x4096) off ![512, n] inb).toLoadRect (ix2 p x : (⟨2, ![512, n]⟩ : Shape).Idx)
      = held L p ⟨c + x.val, by have := room ho inb; omega⟩ := by
  subst ho
  rw [View.readCov_eq_canon']
  unfold held
  refine congrArg (View.canon L) (funext fun a => Fin.ext ?_)
  match a with
  | ⟨0, _⟩ => show 0 + 1 * p.val = p.val; omega
  | ⟨1, _⟩ => show c + 1 * x.val = c + x.val; omega

/-- The whole block stored. -/
theorem held_whole (o : Vec Ideal S512x4096 .f32) (p : Fin 512) (q : Fin 4096) : held [whole o] p q = o (ix2 p q) := by
  have := held_cons (off := ![0, 0]) (c := 0) (n := 4096) rfl inb_S512x4096_S512x4096_0_0 o [] p q
  have hq := q.isLt
  rw [dif_pos ⟨Nat.zero_le _, by omega⟩] at this
  exact this

/-- Four slabs of 1024 columns cover the block once. -/
theorem four (a : EReal) (q : Fin 4096) (d : EReal) :
    (((a + if 0 ≤ q.val ∧ q.val < 0 + 1024 then d else 0) + if 1024 ≤ q.val ∧ q.val < 1024 + 1024 then d else 0)
      + if 2048 ≤ q.val ∧ q.val < 2048 + 1024 then d else 0) + (if 3072 ≤ q.val ∧ q.val < 3072 + 1024 then d else 0) = a + d := by
  have := q.isLt
  by_cases h1 : q.val < 1024
  · rw [if_pos (by omega), if_neg (by omega), if_neg (by omega), if_neg (by omega), add_zero, add_zero, add_zero]
  by_cases h2 : q.val < 2048
  · rw [if_neg (by omega), if_pos (by omega), if_neg (by omega), if_neg (by omega), add_zero, add_zero, add_zero]
  by_cases h3 : q.val < 3072
  · rw [if_neg (by omega), if_neg (by omega), if_pos (by omega), if_neg (by omega), add_zero, add_zero, add_zero]
  · rw [if_neg (by omega), if_neg (by omega), if_neg (by omega), if_pos (by omega), add_zero, add_zero, add_zero]

end Cert.Tail
-- ==== Proof.TailGate.lean ====
/- The gated mix of one point: the block of 512 rows and 512 columns that a point multiplies into the output's rows. -/
module

public import proofs.«01_k».proof.Proof.TailFrame
public import Idealize.ShloMosaic.Lib.Pipeline.ValueKit
public import Idealize.ShloMosaic.Lib.Pointwise

@[expose] public section

set_option maxRecDepth 16384

noncomputable section

namespace Cert.Tail

open Cert.Kernel7Ideal Cert.Kernel7Ideal.Gen Idealize.ShloMosaic Idealize.ShloMosaic.TcCoe Idealize.SL.Sem
open Idealize.ShloMosaic.Pipeline (Dat)

theorem k0_off1_at : ∀ t : Fin cfg0.N, k0_off1 (grid0.coords t) = ![0, t.val % 8 * 512] :=
  (by decide +kernel : ∀ t : Fin grid0.N, k0_off1 (grid0.coords t) = ![0, t.val % 8 * 512])

/-- The entry of a normalised half. -/
def vnBlk (v : Vec Ideal S512x512 .bf16) (mu rs : Vec Ideal S512x1 .f32) (g b : Vec Ideal S1x512 .f32) (p q : Fin 512) : EReal :=
  ((v (ix2 p q) - mu (ix2 p 0)) * rs (ix2 p 0)) * g (ix2 0 q) + b (ix2 0 q)

theorem pay14_at (v : Vec Ideal S512x512 .bf16) (mu rs : Vec Ideal S512x1 .f32) (g b : Vec Ideal S1x512 .f32) (p q : Fin 512) :
    k0_pay14 (F := Ideal) v mu rs g b (ix2 p q) = vnBlk v mu rs g b p q := by
  unfold vnBlk
  pointwise [k0_pay14]

theorem select_mul (c : BitVec 1) (x y : EReal) : Scalar.select c x 0 * y = Scalar.select c (x * y) 0 := by
  unfold Scalar.select; split <;> simp

/-- A chunk of 128 rows mixed by the masked weights of a group, at row `p` of the block and column `q`, the bias added. -/
def mixGroup (v : Vec Ideal S512x512 .bf16) (mu rs : Vec Ideal S512x1 .f32) (g b : Vec Ideal S1x512 .f32)
    (w : Vec Ideal S1x128x128 .f32) (bs : Vec Ideal S1x128x1 .f32) (p q : Fin 512) : EReal :=
  (∑ s : Fin 128, Scalar.select (IntOp.cmpi .sle (BitVec.ofNat 32 s.val) (BitVec.ofNat 32 (p.val % 128)))
      ((w (ix3 0 ⟨p.val % 128, by omega⟩ s) : EReal) * vnBlk v mu rs g b ⟨p.val / 128 * 128 + s.val, by omega⟩ q) 0)
    + bs (ix3 0 ⟨p.val % 128, by omega⟩ 0)

/-- The mixed rows, read at an index. -/
theorem pay19_at (v : Vec Ideal S512x512 .bf16) (mu rs : Vec Ideal S512x1 .f32) (g b : Vec Ideal S1x512 .f32)
    (w0 w1 : Vec Ideal S1x128x128 .f32) (b0 b1 : Vec Ideal S1x128x1 .f32) (p q : Fin 512) :
    k0_pay19 (F := Ideal) (k0_pay14 v mu rs g b) k0_pay15 (k0_pay16 w0) (k0_pay17 b0) (k0_pay18 v mu rs g b) w1 b1 (ix2 p q)
      = if q.val < 256 then mixGroup v mu rs g b w0 b0 p q else mixGroup v mu rs g b w1 b1 p q := by
  pointwise [k0_pay19, k0_pay15, k0_pay16, k0_pay17, k0_pay18]
  have hp := p.isLt
  have hq := q.isLt
  unfold mixGroup
  simp only [← pay14_at]
  by_cases h : q.val < 256
  · rw [dif_pos h, if_pos h]
    by_cases h1 : p.val < 128
    · rw [dif_pos h1]
      have e : p.val % 128 = p.val := by omega
      have e' : p.val / 128 = 0 := by omega
      simp only [e, e', Nat.zero_mul]
      simp
    by_cases h2 : p.val - 128 < 128
    · rw [dif_neg h1, dif_pos h2]
      have e : p.val - 128 = p.val % 128 := by omega
      have e' : p.val / 128 = 1 := by omega
      simp only [e, e', Nat.one_mul]
    by_cases h3 : p.val - 128 - 128 < 128
    · rw [dif_neg h1, dif_neg h2, dif_pos h3]
      have e : p.val - 128 - 128 = p.val % 128 := by omega
      have e' : p.val / 128 * 128 = 256 := by omega
      simp only [e, e']
    · rw [dif_neg h1, dif_neg h2, dif_neg h3]
      have e : p.val - 128 - 128 - 128 = p.val % 128 := by omega
      have e' : p.val / 128 * 128 = 384 := by omega
      simp only [e, e']
  · rw [dif_neg h, if_neg h]
    have eq : 256 + (q.val - 256) = q.val := by omega
    simp only [eq]
    by_cases h1 : p.val < 128
    · rw [dif_pos h1]
      have e : p.val % 128 = p.val := by omega
      have e' : p.val / 128 = 0 := by omega
      simp only [e, e', Nat.zero_mul]
      simp
    by_cases h2 : p.val - 128 < 128
    · rw [dif_neg h1, dif_pos h2]
      have e : p.val - 128 = p.val % 128 := by omega
      have e' : p.val / 128 = 1 := by omega
      simp only [e, e', Nat.one_mul]
    by_cases h3 : p.val - 128 - 128 < 128
    · rw [dif_neg h1, dif_neg h2, dif_pos h3]
      have e : p.val - 128 - 128 = p.val % 128 := by omega
      have e' : p.val / 128 * 128 = 256 := by omega
      simp only [e, e']
    · rw [dif_neg h1, dif_neg h2, dif_neg h3]
      have e : p.val - 128 - 128 - 128 = p.val % 128 := by omega
      have e' : p.val / 128 * 128 = 384 := by omega
      simp only [e, e']

/-- The gated mix of a point, from the blocks it reads. -/
def gate (u v gt : Vec Ideal S512x512 .bf16) (mu rs : Vec Ideal S512x1 .f32) (g b : Vec Ideal S1x512 .f32)
    (w0 w1 : Vec Ideal S1x128x128 .f32) (b0 b1 : Vec Ideal S1x128x1 .f32) : FVec Ideal S512x512 .bf16 :=
  k0_pay20 (F := Ideal) (k0_pay19 (k0_pay14 v mu rs g b) k0_pay15 (k0_pay16 w0) (k0_pay17 b0) (k0_pay18 v mu rs g b) w1 b1) u gt

theorem gate_at (u v gt : Vec Ideal S512x512 .bf16) (mu rs : Vec Ideal S512x1 .f32) (g b : Vec Ideal S1x512 .f32)
    (w0 w1 : Vec Ideal S1x128x128 .f32) (b0 b1 : Vec Ideal S1x128x1 .f32) (p q : Fin 512) :
    gate u v gt mu rs g b w0 w1 b0 b1 (ix2 p q)
      = ((u (ix2 p q) : EReal) * gt (ix2 p q)) * (if q.val < 256 then mixGroup v mu rs g b w0 b0 p q else mixGroup v mu rs g b w1 b1 p q) := by
  rw [← pay19_at]
  unfold gate
  generalize k0_pay19 (F := Ideal) _ _ _ _ _ _ _ = M
  pointwise [k0_pay20]

end Cert.Tail
-- ==== Proof.TailStep.lean ====
/- One point of the odd layer's tail: what it leaves in the output's block, read at an index. -/
module

public import proofs.«01_k».proof.Proof.TailStack
public import proofs.«01_k».proof.Proof.TailGate
public import Idealize.ShloMosaic.Lib.Pipeline.ReadBack

@[expose] public section

set_option maxRecDepth 16384

noncomputable section

namespace Cert.Tail

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- A load after stores is a load of what they leave. -/
theorem readCov_ld {κ : Kind} {sp : Space} (v : View sig κ sp S512x4096 .f32) (L : Stores) (r : Rect S512x4096) :
    v.readCov (Val := Elt Ideal) L r.toLoadRect = View.ld (View.canon L) r := View.readCov_eq_canon' v L r.toLoadRect

/-- The gated mix of point `t`, from the means and the reciprocal deviations of its rows. -/
def gateAt (c : Dev nD) (t : Fin cfg0.N) (mu rs : Vec Ideal S512x1 .f32) : FVec Ideal S512x512 .bf16 :=
  gate (iblk m c 0 t) (View.ld (iblk m c 1 t) (Rect.unit (s := S512x4096) (k0_off1 (grid0.coords t)) S512x512.size (k0_off1_inb (grid0.coords t))))
    (iblk m c 2 t) mu rs (iblk m c 3 t) (iblk m c 4 t)
    (View.ld (iblk m c 5 t) (Rect.unit (s := S16x128x128) (k0_off2 (grid0.coords t) 0#32) S1x128x128.size (k0_off2_inb (grid0.coords t) 0)))
    (View.ld (iblk m c 5 t) (Rect.unit (s := S16x128x128) (k0_off2 (grid0.coords t) 1#32) S1x128x128.size (k0_off2_inb (grid0.coords t) 1)))
    (View.ld (iblk m c 6 t) (Rect.unit (s := S16x128x1) (k0_off3 (grid0.coords t) 0#32) S1x128x1.size (k0_off3_inb (grid0.coords t) 0)))
    (View.ld (iblk m c 6 t) (Rect.unit (s := S16x128x1) (k0_off3 (grid0.coords t) 1#32) S1x128x1.size (k0_off3_inb (grid0.coords t) 1)))

/-- What a point adds at row `p`, column `q`: its 512 columns' share of the product. -/
def share (c : Dev nD) (t : Fin cfg0.N) (mu rs : Vec Ideal S512x1 .f32) (p : Fin 512) (q : Fin 4096) : EReal :=
  ∑ k : Fin 512, (gateAt m c t mu rs (ix2 p k) : EReal) * (show EReal from iblk m c 7 t (ix2 k q))

/-- The residual's entry of a point's chunk of columns. -/
def resid (c : Dev nD) (t : Fin cfg0.N) (p : Fin 512) (q : Fin 4096) : EReal :=
  iblk m c 8 t (ix2 p ⟨q.val % 512, by omega⟩)

theorem ld_cols {e : EltTy} {c n : ℕ} {off : Fin 2 → ℕ} (ho : off = ![0, c]) (inb : ∀ a, off a + ![512, n] a ≤ S512x4096.size a)
    (X : S512x4096.Idx → Elt Ideal e) (p : Fin 512) (x : Fin n) :
    View.ld X (Rect.unit (s := S512x4096) off ![512, n] inb) (ix2 p x : (⟨2, ![512, n]⟩ : Shape).Idx)
      = X (ix2 p ⟨c + x.val, by have := room ho inb; omega⟩) := by
  subst ho
  refine congrArg X (funext fun a => Fin.ext ?_)
  match a with
  | ⟨0, _⟩ => show 0 + 1 * p.val = p.val; omega
  | ⟨1, _⟩ => show c + 1 * x.val = c + x.val; omega

theorem pay1_at (y : FVec Ideal S512x512 .bf16) (o : Vec Ideal S512x1024 .f32) (w : Vec Ideal S512x1024 .bf16) (p : Fin 512) (x : Fin 1024) :
    k0_pay1 (F := Ideal) y (k0_pay24 o) w (ix2 p x) = (o (ix2 p x) : EReal) + ∑ k : Fin 512, (y (ix2 p k) : EReal) * w (ix2 k x) := by
  pointwise [k0_pay1, k0_pay24]
theorem pay21_at (v : FVec Ideal S512x512 .f32) (u g : Vec Ideal S512x512 .bf16) (o : Vec Ideal S512x1024 .f32) (w : Vec Ideal S512x1024 .bf16) (p : Fin 512) (x : Fin 1024) :
    k0_pay21 (F := Ideal) v u g o w (ix2 p x) = (o (ix2 p x) : EReal) + ∑ k : Fin 512, (k0_pay20 (F := Ideal) v u g (ix2 p k) : EReal) * w (ix2 k x) := by
  pointwise [k0_pay21]
theorem pay22_at (v : FVec Ideal S512x512 .f32) (u g : Vec Ideal S512x512 .bf16) (o : Vec Ideal S512x1024 .f32) (w : Vec Ideal S512x1024 .bf16) (p : Fin 512) (x : Fin 1024) :
    k0_pay22 (F := Ideal) v u g o w (ix2 p x) = (o (ix2 p x) : EReal) + ∑ k : Fin 512, (k0_pay20 (F := Ideal) v u g (ix2 p k) : EReal) * w (ix2 k x) := by
  pointwise [k0_pay22]
theorem pay23_at (v : FVec Ideal S512x512 .f32) (u g : Vec Ideal S512x512 .bf16) (o : Vec Ideal S512x1024 .f32) (w : Vec Ideal S512x1024 .bf16) (p : Fin 512) (x : Fin 1024) :
    k0_pay23 (F := Ideal) v u g o w (ix2 p x) = (o (ix2 p x) : EReal) + ∑ k : Fin 512, (k0_pay20 (F := Ideal) v u g (ix2 p k) : EReal) * w (ix2 k x) := by
  pointwise [k0_pay23]
theorem pay2_at (o x : Vec Ideal S512x512 .f32) (p q : Fin 512) :
    k0_pay2 (F := Ideal) o x (ix2 p q) = (o (ix2 p q) : EReal) + x (ix2 p q) := by
  pointwise [k0_pay2]

/-- Slab 0: the product is added in its columns. -/
theorem held_slab0 (L : Stores) (y : FVec Ideal S512x512 .f32) (u g : Vec Ideal S512x512 .bf16) (W : Vec Ideal S512x4096 .bf16) (p : Fin 512) (q : Fin 4096) :
    held (⟨Rect.unit (s := S512x4096) ![0, 0] S512x1024.size inb_S512x4096_S512x1024_0_0,
        k0_pay21 (F := Ideal) y u g (View.ld (View.canon L) (Rect.unit (s := S512x4096) ![0, 0] S512x1024.size inb_S512x4096_S512x1024_0_0))
          (View.ld W (Rect.unit (s := S512x4096) ![0, 0] S512x1024.size inb_S512x4096_S512x1024_0_0))⟩ :: L) p q
      = held L p q + if 0 ≤ q.val ∧ q.val < 0 + 1024 then ∑ k : Fin 512, (k0_pay20 (F := Ideal) y u g (ix2 p k) : EReal) * W (ix2 k q) else 0 := by
  refine held_add rfl _ _ _ (fun p q => ∑ k : Fin 512, (k0_pay20 (F := Ideal) y u g (ix2 p k) : EReal) * W (ix2 k q)) (fun p x => ?_) p q
  refine (pay21_at ..).trans ?_
  have hb := ld_cols (e := .f32) (c := 0) (n := 1024) rfl inb_S512x4096_S512x1024_0_0 (View.canon L) p x
  have hw := fun k : Fin 512 => ld_cols (c := 0) (n := 1024) rfl inb_S512x4096_S512x1024_0_0 W k x
  exact congrArg₂ (fun a b : EReal => a + b) hb (Finset.sum_congr rfl fun k _ => congrArg (fun b : EReal => _ * b) (hw k))

/-- Slab 1: the product is added in its columns. -/
theorem held_slab1 (L : Stores) (y : FVec Ideal S512x512 .f32) (u g : Vec Ideal S512x512 .bf16) (W : Vec Ideal S512x4096 .bf16) (p : Fin 512) (q : Fin 4096) :
    held (⟨Rect.unit (s := S512x4096) ![0, 1024] S512x1024.size inb_S512x4096_S512x1024_0_1024,
        k0_pay22 (F := Ideal) y u g (View.ld (View.canon L) (Rect.unit (s := S512x4096) ![0, 1024] S512x1024.size inb_S512x4096_S512x1024_0_1024))
          (View.ld W (Rect.unit (s := S512x4096) ![0, 1024] S512x1024.size inb_S512x4096_S512x1024_0_1024))⟩ :: L) p q
      = held L p q + if 1024 ≤ q.val ∧ q.val < 1024 + 1024 then ∑ k : Fin 512, (k0_pay20 (F := Ideal) y u g (ix2 p k) : EReal) * W (ix2 k q) else 0 := by
  refine held_add rfl _ _ _ (fun p q => ∑ k : Fin 512, (k0_pay20 (F := Ideal) y u g (ix2 p k) : EReal) * W (ix2 k q)) (fun p x => ?_) p q
  refine (pay22_at ..).trans ?_
  have hb := ld_cols (e := .f32) (c := 1024) (n := 1024) rfl inb_S512x4096_S512x1024_0_1024 (View.canon L) p x
  have hw := fun k : Fin 512 => ld_cols (c := 1024) (n := 1024) rfl inb_S512x4096_S512x1024_0_1024 W k x
  exact congrArg₂ (fun a b : EReal => a + b) hb (Finset.sum_congr rfl fun k _ => congrArg (fun b : EReal => _ * b) (hw k))

/-- Slab 2: the product is added in its columns. -/
theorem held_slab2 (L : Stores) (y : FVec Ideal S512x512 .f32) (u g : Vec Ideal S512x512 .bf16) (W : Vec Ideal S512x4096 .bf16) (p : Fin 512) (q : Fin 4096) :
    held (⟨Rect.unit (s := S512x4096) ![0, 2048] S512x1024.size inb_S512x4096_S512x1024_0_2048,
        k0_pay23 (F := Ideal) y u g (View.ld (View.canon L) (Rect.unit (s := S512x4096) ![0, 2048] S512x1024.size inb_S512x4096_S512x1024_0_2048))
          (View.ld W (Rect.unit (s := S512x4096) ![0, 2048] S512x1024.size inb_S512x4096_S512x1024_0_2048))⟩ :: L) p q
      = held L p q + if 2048 ≤ q.val ∧ q.val < 2048 + 1024 then ∑ k : Fin 512, (k0_pay20 (F := Ideal) y u g (ix2 p k) : EReal) * W (ix2 k q) else 0 := by
  refine held_add rfl _ _ _ (fun p q => ∑ k : Fin 512, (k0_pay20 (F := Ideal) y u g (ix2 p k) : EReal) * W (ix2 k q)) (fun p x => ?_) p q
  refine (pay23_at ..).trans ?_
  have hb := ld_cols (e := .f32) (c := 2048) (n := 1024) rfl inb_S512x4096_S512x1024_0_2048 (View.canon L) p x
  have hw := fun k : Fin 512 => ld_cols (c := 2048) (n := 1024) rfl inb_S512x4096_S512x1024_0_2048 W k x
  exact congrArg₂ (fun a b : EReal => a + b) hb (Finset.sum_congr rfl fun k _ => congrArg (fun b : EReal => _ * b) (hw k))

/-- Slab 3: the product is added in its columns. -/
theorem held_slab3 (L : Stores) (y : FVec Ideal S512x512 .bf16) (W : Vec Ideal S512x4096 .bf16) (p : Fin 512) (q : Fin 4096) :
    held (⟨Rect.unit (s := S512x4096) ![0, 3072] S512x1024.size inb_S512x4096_S512x1024_0_3072,
        k0_pay1 (F := Ideal) y (k0_pay24 (View.ld (View.canon L) (Rect.unit (s := S512x4096) ![0, 3072] S512x1024.size inb_S512x4096_S512x1024_0_3072)))
          (View.ld W (Rect.unit (s := S512x4096) ![0, 3072] S512x1024.size inb_S512x4096_S512x1024_0_3072))⟩ :: L) p q
      = held L p q + if 3072 ≤ q.val ∧ q.val < 3072 + 1024 then ∑ k : Fin 512, (y (ix2 p k) : EReal) * W (ix2 k q) else 0 := by
  refine held_add rfl _ _ _ (fun p q => ∑ k : Fin 512, (y (ix2 p k) : EReal) * W (ix2 k q)) (fun p x => ?_) p q
  refine (pay1_at ..).trans ?_
  have hb := ld_cols (e := .f32) (c := 3072) (n := 1024) rfl inb_S512x4096_S512x1024_0_3072 (View.canon L) p x
  have hw := fun k : Fin 512 => ld_cols (c := 3072) (n := 1024) rfl inb_S512x4096_S512x1024_0_3072 W k x
  exact congrArg₂ (fun a b : EReal => a + b) hb (Finset.sum_congr rfl fun k _ => congrArg (fun b : EReal => _ * b) (hw k))

/-- The residual is added in the point's own columns. -/
theorem held_resid (L : Stores) (t : Fin cfg0.N) (X : Vec Ideal S512x512 .f32) (p : Fin 512) (q : Fin 4096) :
    held (⟨Rect.unit (s := S512x4096) (k0_off1 (grid0.coords t)) S512x512.size (k0_off1_inb (grid0.coords t)),
        k0_pay2 (F := Ideal) (View.ld (View.canon L) (Rect.unit (s := S512x4096) (k0_off1 (grid0.coords t)) S512x512.size (k0_off1_inb (grid0.coords t)))) X⟩ :: L) p q
      = held L p q + if t.val % 8 * 512 ≤ q.val ∧ q.val < t.val % 8 * 512 + 512 then (X (ix2 p ⟨q.val % 512, by omega⟩) : EReal) else 0 := by
  refine held_add (k0_off1_at t) _ _ _ (fun p q => X (ix2 p ⟨q.val % 512, by omega⟩)) (fun p x => ?_) p q
  refine (pay2_at ..).trans ?_
  have hb := ld_cols (e := .f32) (n := 512) (k0_off1_at t) (k0_off1_inb (grid0.coords t)) (View.canon L) p x
  have e : x = (⟨(t.val % 8 * 512 + x.val) % 512, by omega⟩ : Fin 512) := Fin.ext (by show x.val = (t.val % 8 * 512 + x.val) % 512; omega)
  exact congrArg₂ (fun a b : EReal => a + b) hb (congrArg (fun y : Fin 512 => (X (ix2 p y) : EReal)) e)

/-- A point's five stores, over whatever the block held. -/
theorem held_step (L : Stores) (y : FVec Ideal S512x512 .f32) (u g : Vec Ideal S512x512 .bf16) (W : Vec Ideal S512x4096 .bf16) (t : Fin cfg0.N)
    (X : Vec Ideal S512x512 .f32) (L0 L1 L2 L3 : Stores)
    (h0 : L0 = ⟨Rect.unit (s := S512x4096) ![0, 0] S512x1024.size inb_S512x4096_S512x1024_0_0, k0_pay21 (F := Ideal) y u g (View.ld (View.canon L) (Rect.unit (s := S512x4096) ![0, 0] S512x1024.size inb_S512x4096_S512x1024_0_0)) (View.ld W (Rect.unit (s := S512x4096) ![0, 0] S512x1024.size inb_S512x4096_S512x1024_0_0))⟩ :: L)
    (h1 : L1 = ⟨Rect.unit (s := S512x4096) ![0, 1024] S512x1024.size inb_S512x4096_S512x1024_0_1024, k0_pay22 (F := Ideal) y u g (View.ld (View.canon L0) (Rect.unit (s := S512x4096) ![0, 1024] S512x1024.size inb_S512x4096_S512x1024_0_1024)) (View.ld W (Rect.unit (s := S512x4096) ![0, 1024] S512x1024.size inb_S512x4096_S512x1024_0_1024))⟩ :: L0)
    (h2 : L2 = ⟨Rect.unit (s := S512x4096) ![0, 2048] S512x1024.size inb_S512x4096_S512x1024_0_2048, k0_pay23 (F := Ideal) y u g (View.ld (View.canon L1) (Rect.unit (s := S512x4096) ![0, 2048] S512x1024.size inb_S512x4096_S512x1024_0_2048)) (View.ld W (Rect.unit (s := S512x4096) ![0, 2048] S512x1024.size inb_S512x4096_S512x1024_0_2048))⟩ :: L1)
    (h3 : L3 = ⟨Rect.unit (s := S512x4096) ![0, 3072] S512x1024.size inb_S512x4096_S512x1024_0_3072, k0_pay1 (F := Ideal) (k0_pay20 y u g) (k0_pay24 (View.ld (View.canon L2) (Rect.unit (s := S512x4096) ![0, 3072] S512x1024.size inb_S512x4096_S512x1024_0_3072))) (View.ld W (Rect.unit (s := S512x4096) ![0, 3072] S512x1024.size inb_S512x4096_S512x1024_0_3072))⟩ :: L2)
    (p : Fin 512) (q : Fin 4096) :
    held (⟨Rect.unit (s := S512x4096) (k0_off1 (grid0.coords t)) S512x512.size (k0_off1_inb (grid0.coords t)),
        k0_pay2 (F := Ideal) (View.ld (View.canon L3) (Rect.unit (s := S512x4096) (k0_off1 (grid0.coords t)) S512x512.size (k0_off1_inb (grid0.coords t)))) X⟩ :: L3) p q
      = (held L p q + ∑ k : Fin 512, (k0_pay20 (F := Ideal) y u g (ix2 p k) : EReal) * W (ix2 k q))
        + if t.val % 8 * 512 ≤ q.val ∧ q.val < t.val % 8 * 512 + 512 then (X (ix2 p ⟨q.val % 512, by omega⟩) : EReal) else 0 := by
  refine (held_resid ..).trans (congrArg (fun a : EReal => a + _) ?_)
  rw [h3, held_slab3, h2, held_slab2, h1, held_slab1, h0, held_slab0]
  exact four _ q _

/-- A row's mean, from the blocks of its second half. -/
def meanBlk (v : Vec Ideal S512x4096 .bf16) : FVec Ideal S512x1 .f32 :=
  k0_pay11 (F := Ideal) (k0_pay6 (View.ld v (Rect.unit (s := S512x4096) ![0, 0] S512x1024.size inb_S512x4096_S512x1024_0_0)) (View.ld v (Rect.unit (s := S512x4096) ![0, 1024] S512x1024.size inb_S512x4096_S512x1024_0_1024)) (View.ld v (Rect.unit (s := S512x4096) ![0, 2048] S512x1024.size inb_S512x4096_S512x1024_0_2048)) (View.ld v (Rect.unit (s := S512x4096) ![0, 3072] S512x1024.size inb_S512x4096_S512x1024_0_3072)))

/-- A row's reciprocal deviation, from the blocks of its second half. -/
def rstdBlk (v : Vec Ideal S512x4096 .bf16) : FVec Ideal S512x1 .f32 :=
  k0_pay12 (F := Ideal) (k0_pay6 (View.ld v (Rect.unit (s := S512x4096) ![0, 0] S512x1024.size inb_S512x4096_S512x1024_0_0)) (View.ld v (Rect.unit (s := S512x4096) ![0, 1024] S512x1024.size inb_S512x4096_S512x1024_0_1024)) (View.ld v (Rect.unit (s := S512x4096) ![0, 2048] S512x1024.size inb_S512x4096_S512x1024_0_2048)) (View.ld v (Rect.unit (s := S512x4096) ![0, 3072] S512x1024.size inb_S512x4096_S512x1024_0_3072))) (k0_pay7 (View.ld v (Rect.unit (s := S512x4096) ![0, 0] S512x1024.size inb_S512x4096_S512x1024_0_0)) (View.ld v (Rect.unit (s := S512x4096) ![0, 1024] S512x1024.size inb_S512x4096_S512x1024_0_1024)) (View.ld v (Rect.unit (s := S512x4096) ![0, 2048] S512x1024.size inb_S512x4096_S512x1024_0_2048)) (View.ld v (Rect.unit (s := S512x4096) ![0, 3072] S512x1024.size inb_S512x4096_S512x1024_0_3072)) (View.ld v (Rect.unit (s := S512x4096) ![0, 0] S512x1024.size inb_S512x4096_S512x1024_0_0))) (k0_pay8 (View.ld v (Rect.unit (s := S512x4096) ![0, 0] S512x1024.size inb_S512x4096_S512x1024_0_0)) (View.ld v (Rect.unit (s := S512x4096) ![0, 1024] S512x1024.size inb_S512x4096_S512x1024_0_1024)) (View.ld v (Rect.unit (s := S512x4096) ![0, 2048] S512x1024.size inb_S512x4096_S512x1024_0_2048)) (View.ld v (Rect.unit (s := S512x4096) ![0, 3072] S512x1024.size inb_S512x4096_S512x1024_0_3072)) (View.ld v (Rect.unit (s := S512x4096) ![0, 1024] S512x1024.size inb_S512x4096_S512x1024_0_1024))) (View.ld v (Rect.unit (s := S512x4096) ![0, 2048] S512x1024.size inb_S512x4096_S512x1024_0_2048)) (View.ld v (Rect.unit (s := S512x4096) ![0, 3072] S512x1024.size inb_S512x4096_S512x1024_0_3072))

theorem firstMean_eq (c : Dev nD) (t : Fin cfg0.N) (h0 : t.val % 8 = 0) : firstMean m c t h0 = meanBlk (iblk m c 1 t) := by
  unfold firstMean firstRun meanBlk
  frame_out

theorem firstRstd_eq (c : Dev nD) (t : Fin cfg0.N) (h0 : t.val % 8 = 0) : firstRstd m c t h0 = rstdBlk (iblk m c 1 t) := by
  unfold firstRstd firstRun rstdBlk
  frame_out

/-- A row's four slabs summed are the row summed. -/
theorem sum4 (f : Fin 4096 → EReal) :
    (((∑ x : Fin 1024, f ⟨0 + x.val, by omega⟩) + ∑ x : Fin 1024, f ⟨1024 + x.val, by omega⟩)
      + ∑ x : Fin 1024, f ⟨2048 + x.val, by omega⟩) + (∑ x : Fin 1024, f ⟨3072 + x.val, by omega⟩) = ∑ k, f k := by
  rw [Fin.sum_univ_tiles 4 1024 rfl f, Fin.sum_univ_four]
  rfl

theorem meanBlk_at (v : Vec Ideal S512x4096 .bf16) (p : Fin 512) (z : Fin 1) :
    meanBlk v (ix2 p z) = (∑ k : Fin 4096, (v (ix2 p k) : EReal)) * Ideal.ofBits .f32 0x39800000#32 := by
  unfold meanBlk
  pointwise [k0_pay11, k0_pay6]
  exact congrArg (fun a : EReal => a * _) (sum4 fun k => v (ix2 p k))

theorem rstdBlk_at (v : Vec Ideal S512x4096 .bf16) (p : Fin 512) (z : Fin 1) :
    rstdBlk v (ix2 p z)
      = Ideal.rsqrt ((∑ k : Fin 4096, ((v (ix2 p k) : EReal) - meanBlk v (ix2 p z)) * ((v (ix2 p k) : EReal) - meanBlk v (ix2 p z)))
          * Ideal.ofBits .f32 0x39800000#32 + Ideal.ofBits .f32 0x3727C5AC#32) := by
  obtain rfl : z = 0 := Subsingleton.elim _ _
  rw [← sum4 fun k => ((v (ix2 p k) : EReal) - meanBlk v (ix2 p 0)) * ((v (ix2 p k) : EReal) - meanBlk v (ix2 p 0))]
  unfold rstdBlk meanBlk
  pointwise [k0_pay11, k0_pay12, k0_pay7, k0_pay8]

/-- A row's reciprocal root mean square, from what the block holds. -/
def rms (L : Stores) (p : Fin 512) : EReal :=
  Ideal.rsqrt ((∑ k : Fin 4096, held L p k * held L p k) * Ideal.ofBits .f32 0x39800000#32 + Ideal.ofBits .f32 0x358637BD#32)

theorem pay9_at (L : Stores) (p : Fin 512) (z : Fin 1) :
    k0_pay9 (F := Ideal) (View.ld (View.canon L) (Rect.unit (s := S512x4096) ![0, 0] S512x1024.size inb_S512x4096_S512x1024_0_0)) (View.ld (View.canon L) (Rect.unit (s := S512x4096) ![0, 1024] S512x1024.size inb_S512x4096_S512x1024_0_1024)) (View.ld (View.canon L) (Rect.unit (s := S512x4096) ![0, 2048] S512x1024.size inb_S512x4096_S512x1024_0_2048)) (View.ld (View.canon L) (Rect.unit (s := S512x4096) ![0, 3072] S512x1024.size inb_S512x4096_S512x1024_0_3072)) (ix2 p z) = rms L p := by
  obtain rfl : z = 0 := Subsingleton.elim _ _
  unfold rms
  rw [← sum4 fun k => held L p k * held L p k]
  generalize hC : (View.canon L : S512x4096.Idx → EReal) = C
  have e : ∀ k, held L p k = C (ix2 p k) := fun k => by rw [← hC]; rfl
  simp only [e]
  pointwise [k0_pay9]

theorem ld_row {c n : ℕ} (inb : ∀ a, (![0, c] : Fin 2 → ℕ) a + ![1, n] a ≤ S1x4096.size a) (X : Vec Ideal S1x4096 .f32) (x : Fin n) :
    View.ld X (Rect.unit (s := S1x4096) ![0, c] ![1, n] inb) (ix2 0 x : (⟨2, ![1, n]⟩ : Shape).Idx)
      = X (ix2 0 ⟨c + x.val, by have : c + n ≤ 4096 := inb 1; omega⟩) := by
  refine congrArg X (funext fun a => Fin.ext ?_)
  match a with
  | ⟨0, _⟩ => rfl
  | ⟨1, _⟩ => show c + 1 * x.val = c + x.val; omega

theorem pay3_at (r : FVec Ideal S512x1 .f32) (o : Vec Ideal S512x1024 .f32) (f : Vec Ideal S1x1024 .f32) (p : Fin 512) (x : Fin 1024) :
    k0_pay3 (F := Ideal) r o f (ix2 p x) = ((o (ix2 p x) : EReal) * r (ix2 p 0)) * f (ix2 0 x) := by
  pointwise [k0_pay3]
theorem pay4_at (r : FVec Ideal S512x1 .f32) (o : Vec Ideal S512x1024 .f32) (f : Vec Ideal S1x1024 .f32) (p : Fin 512) (x : Fin 1024) :
    k0_pay4 (F := Ideal) r o f (ix2 p x) = ((o (ix2 p x) : EReal) * r (ix2 p 0)) * f (ix2 0 x) := by
  pointwise [k0_pay4]
theorem pay5_at (r : FVec Ideal S512x1 .f32) (o : Vec Ideal S512x1024 .f32) (f : Vec Ideal S1x1024 .f32) (p : Fin 512) (x : Fin 1024) :
    k0_pay5 (F := Ideal) r o f (ix2 p x) = ((o (ix2 p x) : EReal) * r (ix2 p 0)) * f (ix2 0 x) := by
  pointwise [k0_pay5]
theorem pay10_at (a0 a1 a2 a3 o : Vec Ideal S512x1024 .f32) (f : Vec Ideal S1x1024 .f32) (p : Fin 512) (x : Fin 1024) :
    k0_pay10 (F := Ideal) a0 a1 a2 a3 o f (ix2 p x) = ((o (ix2 p x) : EReal) * k0_pay9 (F := Ideal) a0 a1 a2 a3 (ix2 p 0)) * f (ix2 0 x) := by
  pointwise [k0_pay10]

/-- Slab 0, normalised by the rows' root mean squares. -/
theorem held_norm0 (L : Stores) (f : Vec Ideal S1x4096 .f32) (p : Fin 512) (q : Fin 4096) :
    held (⟨Rect.unit (s := S512x4096) ![0, 0] S512x1024.size inb_S512x4096_S512x1024_0_0, k0_pay10 (F := Ideal) (View.ld (View.canon L) (Rect.unit (s := S512x4096) ![0, 0] S512x1024.size inb_S512x4096_S512x1024_0_0)) (View.ld (View.canon L) (Rect.unit (s := S512x4096) ![0, 1024] S512x1024.size inb_S512x4096_S512x1024_0_1024)) (View.ld (View.canon L) (Rect.unit (s := S512x4096) ![0, 2048] S512x1024.size inb_S512x4096_S512x1024_0_2048)) (View.ld (View.canon L) (Rect.unit (s := S512x4096) ![0, 3072] S512x1024.size inb_S512x4096_S512x1024_0_3072)) (View.ld (View.canon L) (Rect.unit (s := S512x4096) ![0, 0] S512x1024.size inb_S512x4096_S512x1024_0_0)) (View.ld f (Rect.unit (s := S1x4096) ![0, 0] S1x1024.size inb_S1x4096_S1x1024_0_0))⟩ :: L) p q
      = if 0 ≤ q.val ∧ q.val < 0 + 1024 then held L p q * rms L p * f (ix2 0 q) else held L p q := by
  refine held_put rfl _ _ _ (fun p q => held L p q * rms L p * f (ix2 0 q)) (fun p x => ?_) p q
  refine (pay10_at ..).trans ?_
  have hb : (View.ld (View.canon L) (Rect.unit (s := S512x4096) ![0, 0] S512x1024.size inb_S512x4096_S512x1024_0_0) (ix2 p x) : EReal) = held L p ⟨0 + x.val, by omega⟩ :=
    (ld_cols (e := .f32) (c := 0) (n := 1024) rfl inb_S512x4096_S512x1024_0_0 (View.canon L) p x)
  have hr := pay9_at L p 0
  have hf := ld_row (c := 0) (n := 1024) inb_S1x4096_S1x1024_0_0 f x
  exact congrArg₂ (fun a b : EReal => a * b) (congrArg₂ (fun a b : EReal => a * b) hb hr) hf

/-- Slab 1, normalised by the rows' root mean squares. -/
theorem held_norm1 (L N : Stores) (f : Vec Ideal S1x4096 .f32) (hN : ∀ (p : Fin 512) (q : Fin 4096), 1024 ≤ q.val → held N p q = held L p q) (p : Fin 512) (q : Fin 4096) :
    held (⟨Rect.unit (s := S512x4096) ![0, 1024] S512x1024.size inb_S512x4096_S512x1024_0_1024, k0_pay3 (F := Ideal) (k0_pay9 (View.ld (View.canon L) (Rect.unit (s := S512x4096) ![0, 0] S512x1024.size inb_S512x4096_S512x1024_0_0)) (View.ld (View.canon L) (Rect.unit (s := S512x4096) ![0, 1024] S512x1024.size inb_S512x4096_S512x1024_0_1024)) (View.ld (View.canon L) (Rect.unit (s := S512x4096) ![0, 2048] S512x1024.size inb_S512x4096_S512x1024_0_2048)) (View.ld (View.canon L) (Rect.unit (s := S512x4096) ![0, 3072] S512x1024.size inb_S512x4096_S512x1024_0_3072))) (View.ld (View.canon N) (Rect.unit (s := S512x4096) ![0, 1024] S512x1024.size inb_S512x4096_S512x1024_0_1024)) (View.ld f (Rect.unit (s := S1x4096) ![0, 1024] S1x1024.size inb_S1x4096_S1x1024_0_1024))⟩ :: N) p q
      = if 1024 ≤ q.val ∧ q.val < 1024 + 1024 then held L p q * rms L p * f (ix2 0 q) else held N p q := by
  refine held_put rfl _ _ _ (fun p q => held L p q * rms L p * f (ix2 0 q)) (fun p x => ?_) p q
  refine (pay3_at ..).trans ?_
  have hb : (View.ld (View.canon N) (Rect.unit (s := S512x4096) ![0, 1024] S512x1024.size inb_S512x4096_S512x1024_0_1024) (ix2 p x) : EReal) = held L p ⟨1024 + x.val, by omega⟩ :=
    (ld_cols (e := .f32) (c := 1024) (n := 1024) rfl inb_S512x4096_S512x1024_0_1024 (View.canon N) p x).trans (hN p ⟨1024 + x.val, by omega⟩ (Nat.le_add_right _ _))
  have hr := pay9_at L p 0
  have hf := ld_row (c := 1024) (n := 1024) inb_S1x4096_S1x1024_0_1024 f x
  exact congrArg₂ (fun a b : EReal => a * b) (congrArg₂ (fun a b : EReal => a * b) hb hr) hf

/-- Slab 2, normalised by the rows' root mean squares. -/
theorem held_norm2 (L N : Stores) (f : Vec Ideal S1x4096 .f32) (hN : ∀ (p : Fin 512) (q : Fin 4096), 2048 ≤ q.val → held N p q = held L p q) (p : Fin 512) (q : Fin 4096) :
    held (⟨Rect.unit (s := S512x4096) ![0, 2048] S512x1024.size inb_S512x4096_S512x1024_0_2048, k0_pay4 (F := Ideal) (k0_pay9 (View.ld (View.canon L) (Rect.unit (s := S512x4096) ![0, 0] S512x1024.size inb_S512x4096_S512x1024_0_0)) (View.ld (View.canon L) (Rect.unit (s := S512x4096) ![0, 1024] S512x1024.size inb_S512x4096_S512x1024_0_1024)) (View.ld (View.canon L) (Rect.unit (s := S512x4096) ![0, 2048] S512x1024.size inb_S512x4096_S512x1024_0_2048)) (View.ld (View.canon L) (Rect.unit (s := S512x4096) ![0, 3072] S512x1024.size inb_S512x4096_S512x1024_0_3072))) (View.ld (View.canon N) (Rect.unit (s := S512x4096) ![0, 2048] S512x1024.size inb_S512x4096_S512x1024_0_2048)) (View.ld f (Rect.unit (s := S1x4096) ![0, 2048] S1x1024.size inb_S1x4096_S1x1024_0_2048))⟩ :: N) p q
      = if 2048 ≤ q.val ∧ q.val < 2048 + 1024 then held L p q * rms L p * f (ix2 0 q) else held N p q := by
  refine held_put rfl _ _ _ (fun p q => held L p q * rms L p * f (ix2 0 q)) (fun p x => ?_) p q
  refine (pay4_at ..).trans ?_
  have hb : (View.ld (View.canon N) (Rect.unit (s := S512x4096) ![0, 2048] S512x1024.size inb_S512x4096_S512x1024_0_2048) (ix2 p x) : EReal) = held L p ⟨2048 + x.val, by omega⟩ :=
    (ld_cols (e := .f32) (c := 2048) (n := 1024) rfl inb_S512x4096_S512x1024_0_2048 (View.canon N) p x).trans (hN p ⟨2048 + x.val, by omega⟩ (Nat.le_add_right _ _))
  have hr := pay9_at L p 0
  have hf := ld_row (c := 2048) (n := 1024) inb_S1x4096_S1x1024_0_2048 f x
  exact congrArg₂ (fun a b : EReal => a * b) (congrArg₂ (fun a b : EReal => a * b) hb hr) hf

/-- Slab 3, normalised by the rows' root mean squares. -/
theorem held_norm3 (L N : Stores) (f : Vec Ideal S1x4096 .f32) (hN : ∀ (p : Fin 512) (q : Fin 4096), 3072 ≤ q.val → held N p q = held L p q) (p : Fin 512) (q : Fin 4096) :
    held (⟨Rect.unit (s := S512x4096) ![0, 3072] S512x1024.size inb_S512x4096_S512x1024_0_3072, k0_pay5 (F := Ideal) (k0_pay9 (View.ld (View.canon L) (Rect.unit (s := S512x4096) ![0, 0] S512x1024.size inb_S512x4096_S512x1024_0_0)) (View.ld (View.canon L) (Rect.unit (s := S512x4096) ![0, 1024] S512x1024.size inb_S512x4096_S512x1024_0_1024)) (View.ld (View.canon L) (Rect.unit (s := S512x4096) ![0, 2048] S512x1024.size inb_S512x4096_S512x1024_0_2048)) (View.ld (View.canon L) (Rect.unit (s := S512x4096) ![0, 3072] S512x1024.size inb_S512x4096_S512x1024_0_3072))) (View.ld (View.canon N) (Rect.unit (s := S512x4096) ![0, 3072] S512x1024.size inb_S512x4096_S512x1024_0_3072)) (View.ld f (Rect.unit (s := S1x4096) ![0, 3072] S1x1024.size inb_S1x4096_S1x1024_0_3072))⟩ :: N) p q
      = if 3072 ≤ q.val ∧ q.val < 3072 + 1024 then held L p q * rms L p * f (ix2 0 q) else held N p q := by
  refine held_put rfl _ _ _ (fun p q => held L p q * rms L p * f (ix2 0 q)) (fun p x => ?_) p q
  refine (pay5_at ..).trans ?_
  have hb : (View.ld (View.canon N) (Rect.unit (s := S512x4096) ![0, 3072] S512x1024.size inb_S512x4096_S512x1024_0_3072) (ix2 p x) : EReal) = held L p ⟨3072 + x.val, by omega⟩ :=
    (ld_cols (e := .f32) (c := 3072) (n := 1024) rfl inb_S512x4096_S512x1024_0_3072 (View.canon N) p x).trans (hN p ⟨3072 + x.val, by omega⟩ (Nat.le_add_right _ _))
  have hr := pay9_at L p 0
  have hf := ld_row (c := 3072) (n := 1024) inb_S1x4096_S1x1024_0_3072 f x
  exact congrArg₂ (fun a b : EReal => a * b) (congrArg₂ (fun a b : EReal => a * b) hb hr) hf

/-- The four slabs normalised one after another: every entry of the block is. -/
theorem held_normed (L : Stores) (f : Vec Ideal S1x4096 .f32) (N0 N1 N2 N3 : Stores)
    (h0 : N0 = ⟨Rect.unit (s := S512x4096) ![0, 0] S512x1024.size inb_S512x4096_S512x1024_0_0, k0_pay10 (F := Ideal) (View.ld (View.canon L) (Rect.unit (s := S512x4096) ![0, 0] S512x1024.size inb_S512x4096_S512x1024_0_0)) (View.ld (View.canon L) (Rect.unit (s := S512x4096) ![0, 1024] S512x1024.size inb_S512x4096_S512x1024_0_1024)) (View.ld (View.canon L) (Rect.unit (s := S512x4096) ![0, 2048] S512x1024.size inb_S512x4096_S512x1024_0_2048)) (View.ld (View.canon L) (Rect.unit (s := S512x4096) ![0, 3072] S512x1024.size inb_S512x4096_S512x1024_0_3072)) (View.ld (View.canon L) (Rect.unit (s := S512x4096) ![0, 0] S512x1024.size inb_S512x4096_S512x1024_0_0)) (View.ld f (Rect.unit (s := S1x4096) ![0, 0] S1x1024.size inb_S1x4096_S1x1024_0_0))⟩ :: L)
    (h1 : N1 = ⟨Rect.unit (s := S512x4096) ![0, 1024] S512x1024.size inb_S512x4096_S512x1024_0_1024, k0_pay3 (F := Ideal) (k0_pay9 (View.ld (View.canon L) (Rect.unit (s := S512x4096) ![0, 0] S512x1024.size inb_S512x4096_S512x1024_0_0)) (View.ld (View.canon L) (Rect.unit (s := S512x4096) ![0, 1024] S512x1024.size inb_S512x4096_S512x1024_0_1024)) (View.ld (View.canon L) (Rect.unit (s := S512x4096) ![0, 2048] S512x1024.size inb_S512x4096_S512x1024_0_2048)) (View.ld (View.canon L) (Rect.unit (s := S512x4096) ![0, 3072] S512x1024.size inb_S512x4096_S512x1024_0_3072))) (View.ld (View.canon N0) (Rect.unit (s := S512x4096) ![0, 1024] S512x1024.size inb_S512x4096_S512x1024_0_1024)) (View.ld f (Rect.unit (s := S1x4096) ![0, 1024] S1x1024.size inb_S1x4096_S1x1024_0_1024))⟩ :: N0)
    (h2 : N2 = ⟨Rect.unit (s := S512x4096) ![0, 2048] S512x1024.size inb_S512x4096_S512x1024_0_2048, k0_pay4 (F := Ideal) (k0_pay9 (View.ld (View.canon L) (Rect.unit (s := S512x4096) ![0, 0] S512x1024.size inb_S512x4096_S512x1024_0_0)) (View.ld (View.canon L) (Rect.unit (s := S512x4096) ![0, 1024] S512x1024.size inb_S512x4096_S512x1024_0_1024)) (View.ld (View.canon L) (Rect.unit (s := S512x4096) ![0, 2048] S512x1024.size inb_S512x4096_S512x1024_0_2048)) (View.ld (View.canon L) (Rect.unit (s := S512x4096) ![0, 3072] S512x1024.size inb_S512x4096_S512x1024_0_3072))) (View.ld (View.canon N1) (Rect.unit (s := S512x4096) ![0, 2048] S512x1024.size inb_S512x4096_S512x1024_0_2048)) (View.ld f (Rect.unit (s := S1x4096) ![0, 2048] S1x1024.size inb_S1x4096_S1x1024_0_2048))⟩ :: N1)
    (h3 : N3 = ⟨Rect.unit (s := S512x4096) ![0, 3072] S512x1024.size inb_S512x4096_S512x1024_0_3072, k0_pay5 (F := Ideal) (k0_pay9 (View.ld (View.canon L) (Rect.unit (s := S512x4096) ![0, 0] S512x1024.size inb_S512x4096_S512x1024_0_0)) (View.ld (View.canon L) (Rect.unit (s := S512x4096) ![0, 1024] S512x1024.size inb_S512x4096_S512x1024_0_1024)) (View.ld (View.canon L) (Rect.unit (s := S512x4096) ![0, 2048] S512x1024.size inb_S512x4096_S512x1024_0_2048)) (View.ld (View.canon L) (Rect.unit (s := S512x4096) ![0, 3072] S512x1024.size inb_S512x4096_S512x1024_0_3072))) (View.ld (View.canon N2) (Rect.unit (s := S512x4096) ![0, 3072] S512x1024.size inb_S512x4096_S512x1024_0_3072)) (View.ld f (Rect.unit (s := S1x4096) ![0, 3072] S1x1024.size inb_S1x4096_S1x1024_0_3072))⟩ :: N2)
    (p : Fin 512) (q : Fin 4096) : held N3 p q = held L p q * rms L p * f (ix2 0 q) := by
  have e0 : ∀ (p : Fin 512) (q : Fin 4096), 1024 ≤ q.val → held N0 p q = held L p q := fun p q h => by
    rw [h0, held_norm0, if_neg (by omega)]
  have e1 : ∀ (p : Fin 512) (q : Fin 4096), 2048 ≤ q.val → held N1 p q = held L p q := fun p q h => by
    rw [h1, held_norm1 L N0 f e0, if_neg (by omega), e0 p q (by omega)]
  have e2 : ∀ (p : Fin 512) (q : Fin 4096), 3072 ≤ q.val → held N2 p q = held L p q := fun p q h => by
    rw [h2, held_norm2 L N1 f e1, if_neg (by omega), e1 p q (by omega)]
  have hq := q.isLt
  rw [h3, held_norm3 L N2 f e2]
  by_cases c3 : 3072 ≤ q.val
  · rw [if_pos (by omega)]
  rw [if_neg (by omega), h2, held_norm2 L N1 f e1]
  by_cases c2 : 2048 ≤ q.val
  · rw [if_pos (by omega)]
  rw [if_neg (by omega), h1, held_norm1 L N0 f e0]
  by_cases c1 : 1024 ≤ q.val
  · rw [if_pos (by omega)]
  rw [if_neg (by omega), h0, held_norm0, if_pos (by omega)]

end Cert.Tail
-- ==== Proof.TailPoint.lean ====
/- One point of the odd layer's tail: what the three kinds of point leave in the output's block. -/
module

public import proofs.«01_k».proof.Proof.TailStep
public import Idealize.ShloMosaic.Lib.Pipeline.ReadBack

@[expose] public section

set_option maxRecDepth 16384

noncomputable section

namespace Cert.Tail

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The block's entry after a point that found `o` there. -/
def after (c : Dev nD) (t : Fin cfg0.N) (mu rs : Vec Ideal S512x1 .f32) (o : EReal) (p : Fin 512) (q : Fin 4096) : EReal :=
  (o + share m c t mu rs p q) + if t.val % 8 * 512 ≤ q.val ∧ q.val < t.val % 8 * 512 + 512 then resid m c t p q else 0

theorem normed_of (L : Stores) (o : Fin 4096 → EReal) (p : Fin 512) (q : Fin 4096) (f : EReal) (e : ∀ k, held L p k = o k) :
    held L p q * rms L p * f
      = o q * Ideal.rsqrt ((∑ k : Fin 4096, o k * o k) * Ideal.ofBits .f32 0x39800000#32 + Ideal.ofBits .f32 0x358637BD#32) * f := by
  unfold rms; simp only [e]

/-- After a middle point: the product's share is added everywhere, the residual in the point's own columns. -/
theorem mid_at (c : Dev nD) (t : Fin cfg0.N) (h0 : ¬t.val % 8 = 0) (h1 : ¬t.val % 8 = 7) (s : State Ideal) (p : Fin 512) (q : Fin 4096) :
    midOut m c t h0 h1 s (ix2 p q) = after m c t s.2.1 s.2.2 (s.1 (ix2 p q)) p q := by
  unfold midOut midRun
  frame_out
  simp only [readCov_ld, read_unread_whole]
  change held _ p q = _
  refine (held_step [whole s.1] _ _ _ _ t _ _ _ _ _ rfl rfl rfl rfl p q).trans ?_
  rw [held_whole]
  rfl

/-- After a first point: the same, over a zero block and with the means and deviations just computed. -/
theorem first_at (c : Dev nD) (t : Fin cfg0.N) (h0 : t.val % 8 = 0) (p : Fin 512) (q : Fin 4096) :
    firstOut m c t h0 (ix2 p q) = after m c t (meanBlk (iblk m c 1 t)) (rstdBlk (iblk m c 1 t)) 0 p q := by
  unfold firstOut firstRun
  frame_out
  simp only [readCov_ld, read_unread_whole]
  change held _ p q = _
  refine (held_step _ _ _ _ _ t _ _ _ _ _ rfl rfl rfl rfl p q).trans ?_
  rw [show held _ p q = 0 from (held_whole (k0_pay13 (F := Ideal)) p q).trans (by pointwise [k0_pay13])]
  rfl

set_option maxHeartbeats 4000000 in
/-- After a last point: the same, then every row normalised by its root mean square. -/
theorem last_at (c : Dev nD) (t : Fin cfg0.N) (h0 : ¬t.val % 8 = 0) (h1 : t.val % 8 = 7) (s : State Ideal) (p : Fin 512) (q : Fin 4096) :
    lastOut m c t h0 h1 s (ix2 p q)
      = (fun o : Fin 4096 → EReal => o q
          * Ideal.rsqrt ((∑ k : Fin 4096, o k * o k) * Ideal.ofBits .f32 0x39800000#32 + Ideal.ofBits .f32 0x358637BD#32)
          * (show EReal from iblk m c 9 t (ix2 0 q))) fun k => after m c t s.2.1 s.2.2 (s.1 (ix2 p k)) p k := by
  unfold lastOut lastRun
  frame_out
  simp only [readCov_ld, read_unread_whole]
  change held _ p q = _
  refine (held_normed _ (iblk m c 9 t) _ _ _ _ rfl rfl rfl rfl p q).trans ?_
  refine normed_of _ (fun k => after m c t s.2.1 s.2.2 (s.1 (ix2 p k)) p k) p q _ fun k => ?_
  refine (held_step [whole s.1] _ _ _ _ t _ _ _ _ _ rfl rfl rfl rfl p k).trans ?_
  rw [held_whole]
  rfl

end Cert.Tail
-- ==== Proof.TailRef.lean ====
/- The odd layer's tail in closed form, and the reference read at an index as that form. -/
module

public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

namespace Cert.Tail

open Cert.Reference7Ideal Cert.Reference7Ideal.Read
open Idealize.ShloMosaic Idealize.ShloMosaic.TcCoe Idealize.SL.Sem

section Forms

variable (UV : FVec Ideal S16384x8192 .bf16) (G : FVec Ideal S16384x4096 .bf16) (g b : FVec Ideal S4096 .f32)
  (ws : FVec Ideal S16x128x128 .f32) (bs : FVec Ideal S16x128 .f32) (W : FVec Ideal S4096x4096 .bf16)
  (X : FVec Ideal S16384x4096 .f32) (fg : FVec Ideal S4096 .f32)

/-- The gated half: the second half of a row's columns. -/
def half (r : Fin 16384) (n : Fin 4096) : EReal := UV (ix2 r ⟨4096 + n.val, by omega⟩)

/-- The mean of a row's second half. -/
def mean (r : Fin 16384) : EReal := (∑ n, half UV r n) * Ideal.ofBits .f32 0x39800000#32

/-- The reciprocal root of a row's second half's variance. -/
def rstd (r : Fin 16384) : EReal :=
  Ideal.rsqrt ((∑ n, (half UV r n - mean UV r) * (half UV r n - mean UV r)) * Ideal.ofBits .f32 0x39800000#32 + Ideal.ofBits .f32 0x3727C5AC#32)

/-- The second half, normalised along its row. -/
def vn (r : Fin 16384) (n : Fin 4096) : EReal := (half UV r n - mean UV r) * rstd UV r * g (ix1 n) + b (ix1 n)

/-- A position's causal mixing weight over the positions of its chunk. -/
def wm (e : Fin 16) (t s : Fin 128) : EReal :=
  Scalar.select (IntOp.cmpi .sle (BitVec.ofNat 32 s.val) (BitVec.ofNat 32 t.val)) (ws (ix3 e t s)) (Ideal.ofBits .f32 0#32)

/-- The normalised half mixed along the positions of a chunk. -/
def mixed (r : Fin 16384) (n : Fin 4096) : EReal :=
  (∑ s : Fin 128, wm ws ⟨n.val / 256, by omega⟩ ⟨r.val % 128, by omega⟩ s * vn UV g b ⟨r.val / 128 * 128 + s.val, by omega⟩ n)
    + bs (ix2 ⟨n.val / 256, by omega⟩ ⟨r.val % 128, by omega⟩)

/-- The gated product that enters the output projection. -/
def gated (r : Fin 16384) (n : Fin 4096) : EReal := UV (ix2 r ⟨n.val, by omega⟩) * G (ix2 r n) * mixed UV g b ws bs r n

/-- The residual stream after the layer. -/
def pre (r : Fin 16384) (n : Fin 4096) : EReal := (∑ k, gated UV G g b ws bs r k * W (ix2 k n)) + X (ix2 r n)

/-- The residual stream, normalised by its root mean square. -/
def out (r : Fin 16384) (n : Fin 4096) : EReal :=
  pre UV G g b ws bs W X r n
    * Ideal.rsqrt ((∑ k, pre UV G g b ws bs W X r k * pre UV G g b ws bs W X r k) * Ideal.ofBits .f32 0x39800000#32 + Ideal.ofBits .f32 0x358637BD#32)
    * fg (ix1 n)

end Forms

/-- Division by 4096 is multiplication by its reciprocal. -/
theorem div_4096 (a : EReal) : Ideal.div a (Ideal.ofBits .f32 1166016512#32) = a * Ideal.ofBits .f32 0x39800000#32 := by
  have h1 : Ideal.ofBits .f32 1166016512#32 = ((4096 : ℝ) : EReal) := by
    simp [Ideal.ofBits, Ideal.ieee, -EReal.coe_mul]; norm_num
  have h2 : Ideal.ofBits .f32 0x39800000#32 = (((4096 : ℝ)⁻¹ : ℝ) : EReal) := by
    simp [Ideal.ofBits, Ideal.ieee, -EReal.coe_mul]; norm_num
  rw [h1, h2, Ideal.div_coe (by norm_num), one_div]

theorem mean_at (UV : FVec Ideal S16384x8192 .bf16) (r : Fin 16384) (z : Fin 1) : val_main_v7 (F := Ideal) UV (ix2 r z) = mean UV r := by
  unfold val_main_v7 val_main_v6 val_main_cst_0 val_main_v5 val_main_v4 val_main_cst val_main_v3 val_main_v2
  pointwise
  exact div_4096 _

theorem rstd_at (UV : FVec Ideal S16384x8192 .bf16) (r : Fin 16384) (z : Fin 1) : val_main_v19 (F := Ideal) UV (ix2 r z) = rstd UV r := by
  unfold val_main_v19 val_main_v18 val_main_v17 val_main_cst_3 val_main_v14 val_main_v13 val_main_cst_2 val_main_v12 val_main_v11 val_main_cst_1 val_main_v10 val_main_v9 val_main_v8 val_main_v3 val_main_v2
  pointwise
  rw [div_4096]; simp only [mean_at]; rfl

theorem vn_at (UV : FVec Ideal S16384x8192 .bf16) (g b) (r : Fin 16384) (n : Fin 4096) :
    val_main_v27 (F := Ideal) UV g b (ix2 r n) = vn UV g b r n := by
  unfold val_main_v27 val_main_v26 val_main_v25 val_main_v24 val_main_v23 val_main_v22 val_main_v21 val_main_v20 val_main_v16 val_main_v15 val_main_v3 val_main_v2
  pointwise
  rw [mean_at, rstd_at]; rfl

theorem mixed_at (UV : FVec Ideal S16384x8192 .bf16) (g b ws bs) (r : Fin 16384) (n : Fin 4096) :
    val_main_v45 (F := Ideal) UV g b ws bs (ix2 r n) = mixed UV g b ws bs r n := by
  unfold val_main_v45 val_main_v44 val_main_v43 val_main_v42 val_main_v41 val_main_v40 val_main_v39 val_main_v38 val_main_v37 val_main_call0_v2 val_main_call0_v1 val_main_call0_v0 val_main_cst_4 val_main_v36 val_main_v35 val_main_v34 val_main_v33 val_main_v32 val_main_v31 val_main_v30 val_main_v29 val_main_v28
  pointwise
  simp only [vn_at]
  exact congrArg (· + _) (Finset.sum_congr rfl fun s _ => mul_comm (G := EReal) _ _)

theorem pre_at (UV : FVec Ideal S16384x8192 .bf16) (G g b ws bs W X) (r : Fin 16384) (n : Fin 4096) :
    val_main_v51 (F := Ideal) UV G g b ws bs W X (ix2 r n) = pre UV G g b ws bs W X r n := by
  unfold val_main_v51 val_main_v50 val_main_v49 val_main_v48 val_main_v47 val_main_v46 val_main_v1 val_main_v0
  pointwise
  simp only [mixed_at]
  refine (add_comm (G := EReal) _ _).trans (congrArg (· + _) (Finset.sum_congr rfl fun s _ => congrArg (· * _) ?_))
  exact mul_right_comm (G := EReal) _ _ _

/-- The reference's result at an index. -/
theorem ref_at (UV : FVec Ideal S16384x8192 .bf16) (G g b ws bs W X fg) (r : Fin 16384) (n : Fin 4096) :
    val_main_v64 (F := Ideal) UV G g b ws bs W X fg (ix2 r n) = out UV G g b ws bs W X fg r n := by
  unfold val_main_v64 val_main_v63 val_main_v62 val_main_v61 val_main_v60 val_main_v59 val_main_v58 val_main_v57 val_main_cst_7 val_main_v56 val_main_v55 val_main_cst_6 val_main_v54 val_main_v53 val_main_cst_5 val_main_v52
  pointwise
  rw [div_4096]; simp only [pre_at]; rfl

end Cert.Tail

end
-- ==== Proof.TailBlocks.lean ====
/- The blocks that a point of the odd layer's tail reads, as entries of the call's operands, and what the point computes from them. -/
module

public import proofs.«01_k».proof.Proof.TailPoint
public import proofs.«01_k».proof.Proof.TailRef

@[expose] public section

set_option maxRecDepth 16384

noncomputable section

namespace Cert.Tail

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The gated half and the mixed half, side by side. -/
abbrev aUV : FVec Ideal S16384x8192 .bf16 := m ((c : Thread nD τ).loc main_arg0)
/-- The gate. -/
abbrev aG : FVec Ideal S16384x4096 .bf16 := m ((c : Thread nD τ).loc main_arg1)
/-- The normalisation's gain. -/
abbrev ag : FVec Ideal S4096 .f32 := m ((c : Thread nD τ).loc main_arg2)
/-- The normalisation's shift. -/
abbrev ab : FVec Ideal S4096 .f32 := m ((c : Thread nD τ).loc main_arg3)
/-- The mixing weights. -/
abbrev aws : FVec Ideal S16x128x128 .f32 := m ((c : Thread nD τ).loc main_arg4)
/-- The mixing bias. -/
abbrev abs' : FVec Ideal S16x128 .f32 := m ((c : Thread nD τ).loc main_arg5)
/-- The output projection. -/
abbrev aW : FVec Ideal S4096x4096 .bf16 := m ((c : Thread nD τ).loc main_arg6)
/-- The residual stream. -/
abbrev aX : FVec Ideal S16384x4096 .f32 := m ((c : Thread nD τ).loc main_arg7)
/-- The last normalisation's gain. -/
abbrev afg : FVec Ideal S4096 .f32 := m ((c : Thread nD τ).loc main_arg8)

theorem idx : ∀ t : Fin cfg0.N,
    win0_0.index t = ![t.val / 8, t.val % 8] ∧ win0_1.index t = ![t.val / 8, 1] ∧ win0_2.index t = ![t.val / 8, t.val % 8]
    ∧ win0_3.index t = ![0, t.val % 8] ∧ win0_4.index t = ![0, t.val % 8] ∧ win0_5.index t = ![0, 0, 0] ∧ win0_6.index t = ![0, 0, 0]
    ∧ win0_7.index t = ![t.val % 8, 0] ∧ win0_8.index t = ![t.val / 8, t.val % 8] ∧ win0_9.index t = ![0, 0] ∧ win0_10.index t = ![t.val / 8, 0] :=
  (by decide +kernel : ∀ t : Fin grid0.N,
    win0_0.index t = ![t.val / 8, t.val % 8] ∧ win0_1.index t = ![t.val / 8, 1] ∧ win0_2.index t = ![t.val / 8, t.val % 8]
    ∧ win0_3.index t = ![0, t.val % 8] ∧ win0_4.index t = ![0, t.val % 8] ∧ win0_5.index t = ![0, 0, 0] ∧ win0_6.index t = ![0, 0, 0]
    ∧ win0_7.index t = ![t.val % 8, 0] ∧ win0_8.index t = ![t.val / 8, t.val % 8] ∧ win0_9.index t = ![0, 0] ∧ win0_10.index t = ![t.val / 8, 0])

theorem lt256 (t : Fin cfg0.N) : t.val < 256 := lt_of_lt_of_eq t.isLt N_0

/-- Row `p` of point `t`'s row block. -/
def row (t : Fin cfg0.N) (p : Fin 512) : Fin 16384 := ⟨t.val / 8 * 512 + p.val, by have := lt256 t; omega⟩
/-- Column `q` of point `t`'s column chunk. -/
def col (t : Fin cfg0.N) (q : Fin 512) : Fin 4096 := ⟨t.val % 8 * 512 + q.val, by omega⟩

theorem blk0 (t : Fin cfg0.N) (p q : Fin 512) : iblk m c 0 t (ix2 p q) = aUV m c (ix2 (row t p) ⟨(col t q).val, by have := (col t q).isLt; omega⟩) := by
  refine congrArg (m ((c : Thread nD τ).loc main_arg0) : FVec Ideal S16384x8192 .bf16) (funext fun a => Fin.ext ?_)
  match a with
  | ⟨0, _⟩ => show win0_0.index t 0 * 512 + 1 * p.val = t.val / 8 * 512 + p.val; rw [(idx t).1]; simp
  | ⟨1, _⟩ => show win0_0.index t 1 * 512 + 1 * q.val = t.val % 8 * 512 + q.val; rw [(idx t).1]; simp

theorem blk1 (t : Fin cfg0.N) (p : Fin 512) (n : Fin 4096) : iblk m c 1 t (ix2 p n) = half (aUV m c) (row t p) n := by
  refine congrArg (m ((c : Thread nD τ).loc main_arg0) : FVec Ideal S16384x8192 .bf16) (funext fun a => Fin.ext ?_)
  match a with
  | ⟨0, _⟩ => show win0_1.index t 0 * 512 + 1 * p.val = t.val / 8 * 512 + p.val; rw [(idx t).2.1]; simp
  | ⟨1, _⟩ => show win0_1.index t 1 * 4096 + 1 * n.val = 4096 + n.val; rw [(idx t).2.1]; simp

theorem blk2 (t : Fin cfg0.N) (p q : Fin 512) : iblk m c 2 t (ix2 p q) = aG m c (ix2 (row t p) (col t q)) := by
  refine congrArg (m ((c : Thread nD τ).loc main_arg1) : FVec Ideal S16384x4096 .bf16) (funext fun a => Fin.ext ?_)
  match a with
  | ⟨0, _⟩ => show win0_2.index t 0 * 512 + 1 * p.val = t.val / 8 * 512 + p.val; rw [(idx t).2.2.1]; simp
  | ⟨1, _⟩ => show win0_2.index t 1 * 512 + 1 * q.val = t.val % 8 * 512 + q.val; rw [(idx t).2.2.1]; simp

theorem V0 (n : Fin 4096) : V m c main_v0 (ix2 0 n) = ag m c (ix1 n) := by
  entry_read; pointwise
theorem V1 (n : Fin 4096) : V m c main_v1 (ix2 0 n) = ab m c (ix1 n) := by
  entry_read; pointwise
theorem V2 (e : Fin 16) (s : Fin 128) : V m c main_v2 (ix3 e s 0) = abs' m c (ix2 e s) := by
  entry_read; pointwise
theorem V3 (n : Fin 4096) : V m c main_v3 (ix2 0 n) = afg m c (ix1 n) := by
  entry_read; pointwise

theorem blk3 (t : Fin cfg0.N) (q : Fin 512) : iblk m c 3 t (ix2 0 q) = ag m c (ix1 (col t q)) := by
  refine Eq.trans (congrArg (V m c main_v0 : FVec Ideal S1x4096 .f32) (funext fun a => Fin.ext ?_)) (V0 m c (col t q))
  match a with
  | ⟨0, _⟩ => show win0_3.index t 0 * 1 + 1 * 0 = 0; rw [(idx t).2.2.2.1]; simp
  | ⟨1, _⟩ => show win0_3.index t 1 * 512 + 1 * q.val = t.val % 8 * 512 + q.val; rw [(idx t).2.2.2.1]; simp

theorem blk4 (t : Fin cfg0.N) (q : Fin 512) : iblk m c 4 t (ix2 0 q) = ab m c (ix1 (col t q)) := by
  refine Eq.trans (congrArg (V m c main_v1 : FVec Ideal S1x4096 .f32) (funext fun a => Fin.ext ?_)) (V1 m c (col t q))
  match a with
  | ⟨0, _⟩ => show win0_4.index t 0 * 1 + 1 * 0 = 0; rw [(idx t).2.2.2.2.1]; simp
  | ⟨1, _⟩ => show win0_4.index t 1 * 512 + 1 * q.val = t.val % 8 * 512 + q.val; rw [(idx t).2.2.2.2.1]; simp

theorem blk5 (t : Fin cfg0.N) (e : Fin 16) (i s : Fin 128) : iblk m c 5 t (ix3 e i s) = aws m c (ix3 e i s) := by
  refine congrArg (m ((c : Thread nD τ).loc main_arg4) : FVec Ideal S16x128x128 .f32) (funext fun a => Fin.ext ?_)
  match a with
  | ⟨0, _⟩ => show win0_5.index t 0 * 16 + 1 * e.val = e.val; rw [(idx t).2.2.2.2.2.1]; simp
  | ⟨1, _⟩ => show win0_5.index t 1 * 128 + 1 * i.val = i.val; rw [(idx t).2.2.2.2.2.1]; simp
  | ⟨2, _⟩ => show win0_5.index t 2 * 128 + 1 * s.val = s.val; rw [(idx t).2.2.2.2.2.1]; simp

theorem blk6 (t : Fin cfg0.N) (e : Fin 16) (i : Fin 128) : iblk m c 6 t (ix3 e i 0) = abs' m c (ix2 e i) := by
  refine Eq.trans (congrArg (V m c main_v2 : FVec Ideal S16x128x1 .f32) (funext fun a => Fin.ext ?_)) (V2 m c e i)
  match a with
  | ⟨0, _⟩ => show win0_6.index t 0 * 16 + 1 * e.val = e.val; rw [(idx t).2.2.2.2.2.2.1]; simp
  | ⟨1, _⟩ => show win0_6.index t 1 * 128 + 1 * i.val = i.val; rw [(idx t).2.2.2.2.2.2.1]; simp
  | ⟨2, _⟩ => show win0_6.index t 2 * 1 + 1 * 0 = 0; rw [(idx t).2.2.2.2.2.2.1]; simp

theorem blk7 (t : Fin cfg0.N) (k : Fin 512) (q : Fin 4096) : iblk m c 7 t (ix2 k q) = aW m c (ix2 (col t k) q) := by
  refine congrArg (m ((c : Thread nD τ).loc main_arg6) : FVec Ideal S4096x4096 .bf16) (funext fun a => Fin.ext ?_)
  match a with
  | ⟨0, _⟩ => show win0_7.index t 0 * 512 + 1 * k.val = t.val % 8 * 512 + k.val; rw [(idx t).2.2.2.2.2.2.2.1]; simp
  | ⟨1, _⟩ => show win0_7.index t 1 * 4096 + 1 * q.val = q.val; rw [(idx t).2.2.2.2.2.2.2.1]; simp

theorem blk8 (t : Fin cfg0.N) (p q : Fin 512) : iblk m c 8 t (ix2 p q) = aX m c (ix2 (row t p) (col t q)) := by
  refine congrArg (m ((c : Thread nD τ).loc main_arg7) : FVec Ideal S16384x4096 .f32) (funext fun a => Fin.ext ?_)
  match a with
  | ⟨0, _⟩ => show win0_8.index t 0 * 512 + 1 * p.val = t.val / 8 * 512 + p.val; rw [(idx t).2.2.2.2.2.2.2.2.1]; simp
  | ⟨1, _⟩ => show win0_8.index t 1 * 512 + 1 * q.val = t.val % 8 * 512 + q.val; rw [(idx t).2.2.2.2.2.2.2.2.1]; simp

theorem blk9 (t : Fin cfg0.N) (q : Fin 4096) : iblk m c 9 t (ix2 0 q) = afg m c (ix1 q) := by
  refine Eq.trans (congrArg (V m c main_v3 : FVec Ideal S1x4096 .f32) (funext fun a => Fin.ext ?_)) (V3 m c q)
  match a with
  | ⟨0, _⟩ => show win0_9.index t 0 * 1 + 1 * 0 = 0; rw [(idx t).2.2.2.2.2.2.2.2.2.1]; simp
  | ⟨1, _⟩ => show win0_9.index t 1 * 4096 + 1 * q.val = q.val; rw [(idx t).2.2.2.2.2.2.2.2.2.1]; simp

theorem k0_off2_at : ∀ t : Fin cfg0.N, k0_off2 (grid0.coords t) 0#32 = ![t.val % 8 * 2, 0, 0] ∧ k0_off2 (grid0.coords t) 1#32 = ![t.val % 8 * 2 + 1, 0, 0]
    ∧ k0_off3 (grid0.coords t) 0#32 = ![t.val % 8 * 2, 0, 0] ∧ k0_off3 (grid0.coords t) 1#32 = ![t.val % 8 * 2 + 1, 0, 0] :=
  (by decide +kernel : ∀ t : Fin grid0.N, k0_off2 (grid0.coords t) 0#32 = ![t.val % 8 * 2, 0, 0] ∧ k0_off2 (grid0.coords t) 1#32 = ![t.val % 8 * 2 + 1, 0, 0]
    ∧ k0_off3 (grid0.coords t) 0#32 = ![t.val % 8 * 2, 0, 0] ∧ k0_off3 (grid0.coords t) 1#32 = ![t.val % 8 * 2 + 1, 0, 0])

/-- The rows' means. -/
def IsMean (t : Fin cfg0.N) (mu : Vec Ideal S512x1 .f32) : Prop := ∀ p, (mu (ix2 p 0) : EReal) = mean (aUV m c) (row t p)
/-- The rows' reciprocal deviations. -/
def IsRstd (t : Fin cfg0.N) (rs : Vec Ideal S512x1 .f32) : Prop := ∀ p, (rs (ix2 p 0) : EReal) = rstd (aUV m c) (row t p)

theorem isMean_blk (t : Fin cfg0.N) : IsMean m c t (meanBlk (iblk m c 1 t)) := fun p => by
  rw [meanBlk_at]
  exact congrArg (fun a : EReal => a * _) (Finset.sum_congr rfl fun k _ => blk1 m c t p k)

theorem isRstd_blk (t : Fin cfg0.N) : IsRstd m c t (rstdBlk (iblk m c 1 t)) := fun p => by
  rw [rstdBlk_at, isMean_blk m c t p]
  unfold rstd
  refine congrArg (fun a : EReal => Ideal.rsqrt (a * _ + _)) (Finset.sum_congr rfl fun k _ => ?_)
  exact congrArg (fun a : EReal => (a - mean (aUV m c) (row t p)) * (a - mean (aUV m c) (row t p))) (blk1 m c t p k)

/-- The normalised half of a point's chunk. -/
theorem vnBlk_at (t : Fin cfg0.N) (mu rs : Vec Ideal S512x1 .f32) (hm : IsMean m c t mu) (hr : IsRstd m c t rs) (p q : Fin 512) :
    vnBlk (View.ld (iblk m c 1 t) (Rect.unit (s := S512x4096) (k0_off1 (grid0.coords t)) S512x512.size (k0_off1_inb (grid0.coords t)))) mu rs
      (iblk m c 3 t) (iblk m c 4 t) p q = vn (aUV m c) (ag m c) (ab m c) (row t p) (col t q) := by
  have hv := (ld_cols (e := .bf16) (n := 512) (k0_off1_at t) (k0_off1_inb (grid0.coords t)) (iblk m c 1 t) p q).trans (blk1 m c t p (col t q))
  have h3 := blk3 m c t q
  have h4 := blk4 m c t q
  unfold vnBlk vn
  rw [hm p, hr p]
  exact congrArg₂ (fun a b : EReal => a + b) (congrArg₂ (fun a b : EReal => (a - _) * _ * b) hv h3) h4

theorem ld_w {e : ℕ} {off : Fin 3 → ℕ} (ho : off = ![e, 0, 0]) (he : e < 16) (inb : ∀ a, off a + S1x128x128.size a ≤ S16x128x128.size a)
    (X : Vec Ideal S16x128x128 .f32) (i s : Fin 128) :
    View.ld X (Rect.unit (s := S16x128x128) off S1x128x128.size inb) (ix3 0 i s : S1x128x128.Idx) = X (ix3 ⟨e, he⟩ i s) := by
  subst ho
  refine congrArg X (funext fun a => Fin.ext ?_)
  match a with
  | ⟨0, _⟩ => rfl
  | ⟨1, _⟩ => show 0 + 1 * i.val = i.val; omega
  | ⟨2, _⟩ => show 0 + 1 * s.val = s.val; omega

theorem ld_b {e : ℕ} {off : Fin 3 → ℕ} (ho : off = ![e, 0, 0]) (he : e < 16) (inb : ∀ a, off a + S1x128x1.size a ≤ S16x128x1.size a)
    (X : Vec Ideal S16x128x1 .f32) (i : Fin 128) :
    View.ld X (Rect.unit (s := S16x128x1) off S1x128x1.size inb) (ix3 0 i 0 : S1x128x1.Idx) = X (ix3 ⟨e, he⟩ i 0) := by
  subst ho
  refine congrArg X (funext fun a => Fin.ext ?_)
  match a with
  | ⟨0, _⟩ => rfl
  | ⟨1, _⟩ => show 0 + 1 * i.val = i.val; omega
  | ⟨2, _⟩ => rfl

/-- A group's mix of a point's chunk, where the group is the columns' own. -/
theorem mixGroup_at (t : Fin cfg0.N) (mu rs : Vec Ideal S512x1 .f32) (hm : IsMean m c t mu) (hr : IsRstd m c t rs) (p q : Fin 512)
    (w : Vec Ideal S1x128x128 .f32) (bs : Vec Ideal S1x128x1 .f32) (e : Fin 16) (he : (col t q).val / 256 = e.val)
    (hw : ∀ i s : Fin 128, (w (ix3 0 i s) : EReal) = aws m c (ix3 e i s)) (hb : ∀ i : Fin 128, (bs (ix3 0 i 0) : EReal) = abs' m c (ix2 e i)) :
    mixGroup (View.ld (iblk m c 1 t) (Rect.unit (s := S512x4096) (k0_off1 (grid0.coords t)) S512x512.size (k0_off1_inb (grid0.coords t)))) mu rs
      (iblk m c 3 t) (iblk m c 4 t) w bs p q = mixed (aUV m c) (ag m c) (ab m c) (aws m c) (abs' m c) (row t p) (col t q) := by
  have er : (row t p).val % 128 = p.val % 128 := by show (t.val / 8 * 512 + p.val) % 128 = _; omega
  have ee : (⟨(col t q).val / 256, by have := (col t q).isLt; omega⟩ : Fin 16) = e := Fin.ext he
  unfold mixGroup mixed wm
  simp only [ee, er, hw, hb, select_mul, Ideal.ofBits_zero_f32]
  refine congrArg (fun a : EReal => a + _) (Finset.sum_congr rfl fun s _ => ?_)
  refine congrArg (fun a : EReal => Scalar.select _ (_ * a) 0) ?_
  refine (vnBlk_at m c t mu rs hm hr _ q).trans (congrArg (fun r => vn (aUV m c) (ag m c) (ab m c) r (col t q)) (Fin.ext ?_))
  show t.val / 8 * 512 + (p.val / 128 * 128 + s.val) = (t.val / 8 * 512 + p.val) / 128 * 128 + s.val
  omega

/-- The gated product of a point's chunk. -/
theorem gateAt_at (t : Fin cfg0.N) (mu rs : Vec Ideal S512x1 .f32) (hm : IsMean m c t mu) (hr : IsRstd m c t rs) (p q : Fin 512) :
    gateAt m c t mu rs (ix2 p q) = gated (aUV m c) (aG m c) (ag m c) (ab m c) (aws m c) (abs' m c) (row t p) (col t q) := by
  have ho := k0_off2_at t
  unfold gateAt gated
  rw [gate_at]
  refine congrArg₂ (fun a b : EReal => a * b) (congrArg₂ (fun a b : EReal => a * b) (blk0 m c t p q) (blk2 m c t p q)) ?_
  have hc : (col t q).val = t.val % 8 * 512 + q.val := rfl
  split
  · exact mixGroup_at m c t mu rs hm hr p q _ _ ⟨t.val % 8 * 2, by omega⟩ (by show _ = t.val % 8 * 2; omega)
      (fun i s => (ld_w ho.1 (by omega) _ _ i s).trans (blk5 m c t _ i s)) (fun i => (ld_b ho.2.2.1 (by omega) _ _ i).trans (blk6 m c t _ i))
  · exact mixGroup_at m c t mu rs hm hr p q _ _ ⟨t.val % 8 * 2 + 1, by omega⟩ (by show _ = t.val % 8 * 2 + 1; omega)
      (fun i s => (ld_w ho.2.1 (by omega) _ _ i s).trans (blk5 m c t _ i s)) (fun i => (ld_b ho.2.2.2 (by omega) _ _ i).trans (blk6 m c t _ i))

end Cert.Tail
-- ==== Proof.TailValue.lean ====
/- The odd layer's tail: the Pallas call's result array is the reference's. -/
module

public import proofs.«01_k».proof.Proof.TailBlocks

@[expose] public section

set_option maxRecDepth 16384

noncomputable section

namespace Cert.Tail

open Cert.Kernel7Ideal Cert.Kernel7Ideal.Gen Idealize.ShloMosaic Idealize.ShloMosaic.TcCoe Idealize.SL.Sem
open Idealize.ShloMosaic.Pipeline (Dat)

attribute [local irreducible] midOut firstOut lastOut state gateAt

variable (m : (ℓ : Loc nD τ sig) → Buf (Elt Ideal) ℓ) (c : Dev nD)

/-- The gated product at row `r`, column `k`. -/
abbrev gd (r : Fin 16384) (k : Fin 4096) : EReal := gated (aUV m c) (aG m c) (ag m c) (ab m c) (aws m c) (abs' m c) r k

/-- The share of column chunk `j` in the output projection at row `r` and column `q`. -/
def tile (r : Fin 16384) (q : Fin 4096) (j : ℕ) : EReal :=
  ∑ k : Fin 512, if h : j < 8 then gd m c r ⟨j * 512 + k.val, by omega⟩ * aW m c (ix2 ⟨j * 512 + k.val, by omega⟩ q) else 0

/-- The residual stream's entry, once column chunk `j` has been added. -/
def grown (r : Fin 16384) (q : Fin 4096) (j : ℕ) : EReal :=
  (∑ i ∈ Finset.range j, tile m c r q i) + if q.val < j * 512 then aX m c (ix2 r q) else 0

theorem grown_zero (r : Fin 16384) (q : Fin 4096) : grown m c r q 0 = 0 := by
  unfold grown; simp

/-- One more chunk. -/
theorem grown_succ (r : Fin 16384) (q : Fin 4096) (j : ℕ) :
    (grown m c r q j + tile m c r q j) + (if j * 512 ≤ q.val ∧ q.val < j * 512 + 512 then aX m c (ix2 r q) else (0 : EReal)) = grown m c r q (j + 1) := by
  unfold grown
  rw [Finset.sum_range_succ]
  by_cases h1 : q.val < j * 512
  · rw [if_pos h1, if_neg (by omega), if_pos (by omega), add_zero]
    exact add_right_comm _ _ _
  by_cases h2 : q.val < j * 512 + 512
  · rw [if_neg h1, if_pos ⟨by omega, h2⟩, if_pos (by omega), add_zero]
  · rw [if_neg h1, if_neg (by omega), if_neg (by omega), add_zero, add_zero, add_zero]

/-- All eight chunks. -/
theorem grown_all (r : Fin 16384) (q : Fin 4096) :
    grown m c r q 8 = pre (aUV m c) (aG m c) (ag m c) (ab m c) (aws m c) (abs' m c) (aW m c) (aX m c) r q := by
  unfold grown pre
  rw [if_pos (by omega), Finset.sum_range, Fin.sum_univ_tiles 8 512 rfl]
  refine congrArg (fun a : EReal => a + _) (Finset.sum_congr rfl fun j _ => ?_)
  unfold tile
  exact Finset.sum_congr rfl fun k _ => dif_pos j.isLt

/-- What a point makes of an entry that has grown so far. -/
theorem after_at (t : Fin cfg0.N) (mu rs : Vec Ideal S512x1 .f32) (hm : IsMean m c t mu) (hr : IsRstd m c t rs) (p : Fin 512) (q : Fin 4096)
    (o : EReal) (ho : o = grown m c (row t p) q (t.val % 8)) : after m c t mu rs o p q = grown m c (row t p) q (t.val % 8 + 1) := by
  rw [← grown_succ, ho]
  unfold after share resid
  refine congrArg₂ (fun a b : EReal => a + b) (congrArg (fun a : EReal => grown m c (row t p) q (t.val % 8) + a) ?_) ?_
  · unfold tile
    refine Finset.sum_congr rfl fun k _ => ?_
    rw [dif_pos (by omega : t.val % 8 < 8)]
    exact congrArg₂ (fun a b : EReal => a * b) (gateAt_at m c t mu rs hm hr p k) (blk7 m c t k q)
  · split
    · rename_i h
      refine (blk8 m c t p _).trans (congrArg (fun n => aX m c (ix2 (row t p) n)) (Fin.ext ?_))
      show t.val % 8 * 512 + q.val % 512 = q.val
      omega
    · rfl

/-- What the body carries after point `t`: the rows' means and reciprocal deviations, and, before the last point of a row block, the grown entries. -/
structure Carried (t : Fin cfg0.N) (s : State Ideal) : Prop where
  mean : IsMean m c t s.2.1
  rstd : IsRstd m c t s.2.2
  rest : t.val % 8 ≠ 7 → ∀ (p : Fin 512) (q : Fin 4096), (s.1 (ix2 p q) : EReal) = grown m c (row t p) q (t.val % 8 + 1)

/-- The first point of a row block starts what is carried. -/
theorem carried_first (t : Fin cfg0.N) (h0 : t.val % 8 = 0) : Carried m c t (state m c t.val t.isLt) := by
  rw [state_first m c t h0, firstMean_eq m c t h0, firstRstd_eq m c t h0]
  refine ⟨isMean_blk m c t, isRstd_blk m c t, fun _ p q => (first_at m c t h0 p q).trans ?_⟩
  refine after_at m c t _ _ (isMean_blk m c t) (isRstd_blk m c t) p q 0 ?_
  rw [h0, grown_zero]

/-- Two successive points of a row block are at the same rows. -/
theorem same_row (t u : Fin cfg0.N) (h : t.val / 8 = u.val / 8) (p : Fin 512) : row t p = row u p :=
  Fin.ext (by show t.val / 8 * 512 + p.val = u.val / 8 * 512 + p.val; rw [h])

/-- What a point of a row block finds of the one before. -/
theorem found (u t : Fin cfg0.N) (h : u.val + 1 = t.val) (h0 : ¬t.val % 8 = 0) (s : State Ideal) (hc : Carried m c u s) :
    IsMean m c t s.2.1 ∧ IsRstd m c t s.2.2 ∧ ∀ (p : Fin 512) (q : Fin 4096), (s.1 (ix2 p q) : EReal) = grown m c (row t p) q (t.val % 8) := by
  have er := same_row u t (by omega)
  refine ⟨fun p => (hc.mean p).trans (by rw [er]), fun p => (hc.rstd p).trans (by rw [er]), fun p q => (hc.rest (by omega) p q).trans ?_⟩
  rw [er]
  exact congrArg (grown m c _ q) (by omega)

/-- A later point of a row block carries on. -/
theorem carried_next (u t : Fin cfg0.N) (h : u.val + 1 = t.val) (h0 : ¬t.val % 8 = 0) (hc : Carried m c u (prev m c t)) :
    Carried m c t (state m c t.val t.isLt) := by
  obtain ⟨hm, hr, hg⟩ := found m c u t h h0 _ hc
  by_cases h1 : t.val % 8 = 7
  · rw [state_last m c t h0 h1]
    exact ⟨hm, hr, fun hn => absurd h1 hn⟩
  · rw [state_mid m c t h0 h1]
    exact ⟨hm, hr, fun _ p q => (mid_at m c t h0 h1 _ p q).trans (after_at m c t _ _ hm hr p q _ (hg p q))⟩

theorem carried : ∀ (n : ℕ) (h : n < cfg0.N), Carried m c ⟨n, h⟩ (state m c n h)
  | 0, h => carried_first m c ⟨0, h⟩ rfl
  | n + 1, h => by
    by_cases h0 : (n + 1) % 8 = 0
    · exact carried_first m c ⟨n + 1, h⟩ h0
    · exact carried_next m c ⟨n, Nat.lt_of_succ_lt h⟩ ⟨n + 1, h⟩ rfl h0 (carried n (Nat.lt_of_succ_lt h))

/-- After the last point of a row block, the block holds the reference's rows. -/
theorem rows (t : Fin cfg0.N) (h1 : t.val % 8 = 7) (p : Fin 512) (q : Fin 4096) :
    (state m c t.val t.isLt).1 (ix2 p q)
      = out (aUV m c) (aG m c) (ag m c) (ab m c) (aws m c) (abs' m c) (aW m c) (aX m c) (afg m c) (row t p) q := by
  have h0 : ¬t.val % 8 = 0 := by omega
  have hlt : t.val - 1 < cfg0.N := Nat.lt_of_le_of_lt (Nat.sub_le _ _) t.isLt
  obtain ⟨hm, hr, hg⟩ := found m c ⟨t.val - 1, hlt⟩ t (by dsimp only; omega) h0 (prev m c t) (carried m c (t.val - 1) hlt)
  have e : ∀ k, after m c t (prev m c t).2.1 (prev m c t).2.2 ((prev m c t).1 (ix2 p k)) p k
      = pre (aUV m c) (aG m c) (ag m c) (ab m c) (aws m c) (abs' m c) (aW m c) (aX m c) (row t p) k := fun k => by
    refine (after_at m c t _ _ hm hr p k _ (hg p k)).trans ?_
    rw [h1]
    exact grown_all m c _ k
  rw [state_last m c t h0 h1]
  refine (last_at m c t h0 h1 _ p q).trans ?_
  unfold out
  simp only [e]
  exact congrArg (fun a : EReal => _ * a) (blk9 m c t q)

/-- The tail's result array after the run is the reference's. -/
theorem final : (dats m 0 c).arrAt 10 (cfgs 0).N
    = Cert.Reference7Ideal.Read.val_main_v64 (F := Ideal) (aUV m c) (aG m c) (ag m c) (ab m c) (aws m c) (abs' m c) (aW m c) (aX m c) (afg m c) := by
  refine (dats m 0 c).arrAt_eq_of_covers 10 _ (by decide +kernel) fun t hf y => ?_
  have h7 : t.val % 8 = 7 := (flush0_10 t).mp hf
  refine Eq.trans (b := (state m c t.val t.isLt).1 y) (congrFun (after_10 m c t) y) ?_
  have ey : ((cfg0.win 10).blk t).view.emb y = ix2 (row t (y 0)) (y 1) := funext fun a => Fin.ext (by
    match a with
    | ⟨0, _⟩ => show win0_10.index t 0 * 512 + 1 * (y 0).val = t.val / 8 * 512 + (y 0).val; rw [(idx t).2.2.2.2.2.2.2.2.2.2]; simp
    | ⟨1, _⟩ => show win0_10.index t 1 * 4096 + 1 * (y 1).val = (y 1).val; rw [(idx t).2.2.2.2.2.2.2.2.2.2]; simp)
  refine Eq.trans ?_ (congrArg _ ey).symm
  refine Eq.trans ?_ (ref_at ..).symm
  refine Eq.trans ?_ (rows m c t h7 (y 0) (y 1))
  exact congrArg (state m c t.val t.isLt).1 (eq_ix2 (n0 := 512) (n1 := 4096) y)

end Cert.Tail
-- ==== Proof.Norm.lean ====
/- The root-mean-square normalization: the Pallas call's result array is the reference's. -/
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel8Ideal.Norm

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The reference's normalized rows, as a function of the rows and the gains. -/
abbrev ref (X : FVec Ideal S16384x4096 .f32) (g : FVec Ideal S4096 .f32) : FVec Ideal S16384x4096 .bf16 :=
  Cert.Reference8Ideal.Read.val_main_v13 (F := Ideal) X g

/-- The reference at row `r` and column `n`: the entry over the row's root mean square, times the column's gain. -/
theorem ref_at (X : FVec Ideal S16384x4096 .f32) (g : FVec Ideal S4096 .f32) (r : Fin 16384) (n : Fin 4096) :
    ref X g (ix2 r n) = (X (ix2 r n)
      * Ideal.rsqrt (Ideal.div (∑ k : Fin 4096, X (ix2 r k) * X (ix2 r k)) (Ideal.ofBits .f32 0x45800000#32) + Ideal.ofBits .f32 0x358637BD#32)) * g (ix1 n) := by
  unfold ref Cert.Reference8Ideal.Read.val_main_v13 Cert.Reference8Ideal.Read.val_main_v12 Cert.Reference8Ideal.Read.val_main_v11 Cert.Reference8Ideal.Read.val_main_v10 Cert.Reference8Ideal.Read.val_main_v9 Cert.Reference8Ideal.Read.val_main_v8 Cert.Reference8Ideal.Read.val_main_v7 Cert.Reference8Ideal.Read.val_main_v6 Cert.Reference8Ideal.Read.val_main_v5 Cert.Reference8Ideal.Read.val_main_cst_1 Cert.Reference8Ideal.Read.val_main_v4 Cert.Reference8Ideal.Read.val_main_v3 Cert.Reference8Ideal.Read.val_main_cst_0 Cert.Reference8Ideal.Read.val_main_v2 Cert.Reference8Ideal.Read.val_main_v1 Cert.Reference8Ideal.Read.val_main_cst Cert.Reference8Ideal.Read.val_main_v0
  pointwise

/-- The index maps of the three windows, at every grid point. -/
theorem idx : ∀ t : Fin cfg0.N, win0_0.index t = ![t.val, 0] ∧ win0_1.index t = ![0, 0] ∧ win0_2.index t = ![t.val, 0] :=
  (by decide +kernel : ∀ t : Fin grid0.N, _)

/-- The rows' block at a point. -/
theorem iblk0 (c : Dev nD) (t : Fin cfg0.N) (p : Fin 256) (n : Fin 4096) :
    iblk m c 0 t (ix2 p n) = (m ((c : Thread nD τ).loc main_arg0) : FVec Ideal S16384x4096 .f32)
      (ix2 ⟨t.val * 256 + p.val, by have : t.val < 64 := t.isLt; omega⟩ n) := by
  refine congrArg (m ((c : Thread nD τ).loc main_arg0) : FVec Ideal S16384x4096 .f32) (funext fun a => Fin.ext ?_)
  match a with
  | ⟨0, _⟩ => show win0_0.index t 0 * 256 + 1 * p.val = t.val * 256 + p.val; rw [(idx t).1]; simp
  | ⟨1, _⟩ => show win0_0.index t 1 * 4096 + 1 * n.val = n.val; rw [(idx t).1]; simp

/-- What the body stores at block index `y` of point `t` is the reference at the array index `y` sits at. -/
theorem point (c : Dev nD) (t : Fin cfg0.N) (y : S256x4096.Idx) :
    k0_pay1 (F := Ideal) (iblk m c 0 t) (iblk m c 1 t) y
      = ref (m ((c : Thread nD τ).loc main_arg0)) (m ((c : Thread nD τ).loc main_arg1)) (((cfg0.win 2).blk t).view.emb y) := by
  have ey : ((cfg0.win 2).blk t).view.emb y = ix2 ⟨t.val * 256 + (y 0).val, by have : t.val < 64 := t.isLt; have : (y 0).val < 256 := (y 0).isLt; omega⟩ (y 1) :=
    funext fun a => Fin.ext (by
      match a with
      | ⟨0, _⟩ => show win0_2.index t 0 * 256 + 1 * (y 0).val = t.val * 256 + (y 0).val; rw [(idx t).2.2]; simp
      | ⟨1, _⟩ => show win0_2.index t 1 * 4096 + 1 * (y 1).val = (y 1).val; rw [(idx t).2.2]; simp)
  refine Eq.trans ?_ (congrArg _ ey).symm
  refine Eq.trans ?_ (ref_at _ _ _ _).symm
  pointwise [k0_pay1, iblk0]
  blk_point [iblk, V, idx t]

/-- The normalization's result array after the run is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.Norm

end
-- ==== Proof.lean ====
/- The claims of the certificate: for each call its two programs' frames, its reference's frame, its idealization, and that the
   call's results are the reference's over the extended reals. -/
module

public import proofs.«01_k».proof.Defs
public import proofs.«01_k».proof.Proof.Gen.Kernel
public import proofs.«01_k».proof.Proof.Gen.KernelIdeal
public import proofs.«01_k».proof.Proof.Gen.Pre_finite_qk
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.MixTwin
public import proofs.«01_k».proof.Proof.MixValue
public import proofs.«01_k».proof.Proof.EvenA
public import proofs.«01_k».proof.Proof.EvenB
public import proofs.«01_k».proof.Proof.OddUV
public import proofs.«01_k».proof.Proof.OddG
public import proofs.«01_k».proof.Proof.EvenOut
public import proofs.«01_k».proof.Proof.TailTwin
public import proofs.«01_k».proof.Proof.TailValue
public import proofs.«01_k».proof.Proof.Norm
public import Idealize.ShloMosaic.Lib.Claim
public import Idealize.ShloMosaic.Lib.Tactic

@[expose] public section

set_option maxRecDepth 16384

noncomputable section

namespace Cert.Proof

open Idealize.ShloMosaic Idealize.SL.Sem

/-- The attention's reference runs to its end, its arguments unchanged and its counters at zero. -/
theorem quiescent1 [Cert.ReferenceIdeal.Facts] : Cert.quiescent_ReferenceIdeal := by
  intro m g _
  hlo_run
  · simp
  · exact sem_eq_zero_of_no_sems (by decide) _

/-- The attention's result is its reference's over the extended reals, where the queries and the keys are finite. -/
theorem algebraic1 : Cert.algebraic_KernelIdeal_ReferenceIdeal_pre_finite_qk := by
  intro m g m' g' hp hagree
  refine ⟨fun c => (Cert.Mix.dats m 0 c).arrAt 25 (Cert.KernelIdeal.cfgs 0).N, ?_, ?_⟩
  · run_from Cert.Mix.run_out m g & Cert.Mix.kept m g
  · run_from Cert.ReferenceIdeal.Value.run m' g'
    · refine (Cert.ReferenceIdeal.Read.val_main_v33_eq m' c).trans ?_
      rw [(hagree c).2.1]
      exact (Cert.Mix.final m c hp).symm

/-- The reference of call 2 runs to its end, its arguments unchanged and its counters at zero. -/
theorem quiescent2 [Cert.Reference2Ideal.Facts] : Cert.quiescent_Reference2Ideal := by
  intro m g _
  hlo_run
  · simp
  · exact sem_eq_zero_of_no_sems (by decide) _

/-- The results of call 2 of the layer are its reference's, over the extended reals. -/
theorem algebraic2 [Cert.Kernel2Ideal.Facts] [Cert.Reference2Ideal.Facts] : Cert.algebraic_Kernel2Ideal_Reference2Ideal := by
  pair_intro
  · run_from Cert.Kernel2Ideal.Gen.run_main m g
  · run_from Cert.Reference2Ideal.Value.run m' g'
    · exact (Cert.Kernel2Ideal.Proj.final m c).symm
    · exact (Cert.Kernel2Ideal.Proj.finalw m c).symm
    · exact (Cert.Kernel2Ideal.Proj.finale m c).symm
    · exact (Cert.Kernel2Ideal.Proj.finalo m c).symm

/-- The reference of call 3 runs to its end, its arguments unchanged and its counters at zero. -/
theorem quiescent3 [Cert.Reference3Ideal.Facts] : Cert.quiescent_Reference3Ideal := by
  intro m g _
  hlo_run
  · simp
  · exact sem_eq_zero_of_no_sems (by decide) _

/-- The results of call 3 of the layer are its reference's, over the extended reals. -/
theorem algebraic3 [Cert.Kernel3Ideal.Facts] [Cert.Reference3Ideal.Facts] : Cert.algebraic_Kernel3Ideal_Reference3Ideal := by
  pair_intro
  · run_from Cert.Kernel3Ideal.Gen.run_main m g
  · run_from Cert.Reference3Ideal.Value.run m' g'
    · exact (Cert.Kernel3Ideal.Proj.final m c).symm
    · exact (Cert.Kernel3Ideal.Proj.finalw m c).symm

/-- The reference of call 4 runs to its end, its arguments unchanged and its counters at zero. -/
theorem quiescent4 [Cert.Reference4Ideal.Facts] : Cert.quiescent_Reference4Ideal := by
  intro m g _
  hlo_run
  · simp
  · exact sem_eq_zero_of_no_sems (by decide) _

/-- The results of call 4 of the layer are its reference's, over the extended reals. -/
theorem algebraic4 [Cert.Kernel4Ideal.Facts] [Cert.Reference4Ideal.Facts] : Cert.algebraic_Kernel4Ideal_Reference4Ideal := by
  pair_intro
  · run_from Cert.Kernel4Ideal.Gen.run_main m g
  · run_from Cert.Reference4Ideal.Value.run m' g'
    · exact (Cert.Kernel4Ideal.Proj.final m c).symm

/-- The reference of call 5 runs to its end, its arguments unchanged and its counters at zero. -/
theorem quiescent5 [Cert.Reference5Ideal.Facts] : Cert.quiescent_Reference5Ideal := by
  intro m g _
  hlo_run
  · simp
  · exact sem_eq_zero_of_no_sems (by decide) _

/-- The results of call 5 of the layer are its reference's, over the extended reals. -/
theorem algebraic5 [Cert.Kernel5Ideal.Facts] [Cert.Reference5Ideal.Facts] : Cert.algebraic_Kernel5Ideal_Reference5Ideal := by
  pair_intro
  · run_from Cert.Kernel5Ideal.Gen.run_main m g
  · run_from Cert.Reference5Ideal.Value.run m' g'
    · exact (Cert.Kernel5Ideal.Proj.final m c).symm

/-- The reference of call 6 runs to its end, its arguments unchanged and its counters at zero. -/
theorem quiescent6 [Cert.Reference6Ideal.Facts] : Cert.quiescent_Reference6Ideal := by
  intro m g _
  hlo_run
  · simp
  · exact sem_eq_zero_of_no_sems (by decide) _

/-- The results of call 6 of the layer are its reference's, over the extended reals. -/
theorem algebraic6 [Cert.Kernel6Ideal.Facts] [Cert.Reference6Ideal.Facts] : Cert.algebraic_Kernel6Ideal_Reference6Ideal := by
  pair_intro
  · run_from Cert.Kernel6Ideal.Gen.run_main m g
  · run_from Cert.Reference6Ideal.Value.run m' g'
    · exact (Cert.Kernel6Ideal.Proj.final m c).symm

/-- The reference of call 7 runs to its end, its arguments unchanged and its counters at zero. -/
theorem quiescent7 [Cert.Reference7Ideal.Facts] : Cert.quiescent_Reference7Ideal := by
  intro m g _
  hlo_run
  · simp
  · exact sem_eq_zero_of_no_sems (by decide) _

/-- The results of call 7 of the layer are its reference's, over the extended reals. -/
theorem algebraic7 [Cert.Kernel7Ideal.Facts] [Cert.Reference7Ideal.Facts] : Cert.algebraic_Kernel7Ideal_Reference7Ideal := by
  pair_intro
  · run_from (θ_run_mono (Cert.Tail.run_main m g) fun _ h => h.1) & Cert.Tail.kept m g
  · run_from Cert.Reference7Ideal.Value.run m' g'
    · obtain ⟨h0, h1, h2, h3, h4, h5, h6, h7, h8⟩ := hagree c
      refine (Cert.Reference7Ideal.Read.val_main_v64_eq m' c).trans ?_
      rw [h0, h1, h2, h3, h4, h5, h6, h7, h8]
      exact (Cert.Tail.final m c).symm

/-- The reference of call 8 runs to its end, its arguments unchanged and its counters at zero. -/
theorem quiescent8 [Cert.Reference8Ideal.Facts] : Cert.quiescent_Reference8Ideal := by
  intro m g _
  hlo_run
  · simp
  · exact sem_eq_zero_of_no_sems (by decide) _

/-- The results of call 8 of the layer are its reference's, over the extended reals. -/
theorem algebraic8 [Cert.Kernel8Ideal.Facts] [Cert.Reference8Ideal.Facts] : Cert.algebraic_Kernel8Ideal_Reference8Ideal := by
  pair_intro
  · run_from Cert.Kernel8Ideal.Gen.run_main m g
  · run_from Cert.Reference8Ideal.Value.run m' g'
    · exact (Cert.Kernel8Ideal.Norm.final m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite_qk.Gen.facts,
  Cert.Mix.kept_bits, fun m g _ => Cert.Mix.kept m g, fun m g _ => Cert.Mix.kept m g, quiescent1, fun m g _ => quiescent1 m g trivial,
  fun m ρ _ => Cert.Kernel2.Gen.frame m ρ, fun m ρ _ => Cert.Kernel2Ideal.Gen.frame m ρ, quiescent2,
  fun m ρ _ => Cert.Kernel3.Gen.frame m ρ, fun m ρ _ => Cert.Kernel3Ideal.Gen.frame m ρ, quiescent3,
  fun m ρ _ => Cert.Kernel4.Gen.frame m ρ, fun m ρ _ => Cert.Kernel4Ideal.Gen.frame m ρ, quiescent4,
  fun m ρ _ => Cert.Kernel5.Gen.frame m ρ, fun m ρ _ => Cert.Kernel5Ideal.Gen.frame m ρ, quiescent5,
  fun m ρ _ => Cert.Kernel6.Gen.frame m ρ, fun m ρ _ => Cert.Kernel6Ideal.Gen.frame m ρ, quiescent6,
  Cert.Tail.kept_bits, fun m g _ => Cert.Tail.kept m g, quiescent7,
  fun m ρ _ => Cert.Kernel8.Gen.frame m ρ, fun m ρ _ => Cert.Kernel8Ideal.Gen.frame m ρ, quiescent8,
  trivial, algebraic1,
  trivial, algebraic2,
  IdealRules.named_const.statement _ _ _ _ _ rfl, algebraic3,
  trivial, algebraic4,
  trivial, algebraic5,
  trivial, algebraic6,
  trivial, algebraic7,
  trivial, algebraic8⟩

end Cert.Proof

end
